-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log_base" .f32 0x41135D8E#32 ((Real.log 10000 : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 2048, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 2048, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v87) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x128x512 .bf16) (main_arg1 : FVec F S512x256 .bf16) (main_arg2 : FVec F S512x256 .bf16) (main_arg3 : FVec F S512x256 .bf16) (main_arg4 : FVec F S256x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S512x256 .f32 := (extf .f32 · bitsLt_bf16_f32) main_arg2
  let main_v12 : FVec F S512x256 .f32 := Host.absf main_v11
  let main_cst_2 : FVec F S_ .f32 := constant S_ .f32 0x7F800000#32
  let main_v13 : FVec F S512x256 .f32 := broadcastInDim S512x256 ![] bcast_S_S512x256 main_cst_2
  let main_v14 : IVec S512x256 1 := cmpf .olt main_v12 main_v13
  let main_c_3 : IVec S_ 1 := constantI S_ 1 1#1
  let main_v15 : IVec S_ 1 := (fun x v => Host.reduce IntOp.andi x v reducesTo_S512x256_S_d0_1 h_S_) main_v14 main_c_3
  let main_v16 : IVec S_ 1 := andi main_v10 main_v15
  main_v16
-- ==== Pre_finite_scores_ReferenceIdeal.lean ====
abbrev S2x2048x512 : Shape := ⟨3, ![2, 2048, 512]⟩
abbrev S512x256 : Shape := ⟨2, ![512, 256]⟩
abbrev S256x512 : Shape := ⟨2, ![256, 512]⟩
abbrev S_ : Shape := ⟨0, ![]⟩

class Facts : Prop where
  bitsLt_bf16_f32 : FTy.bits .bf16 < FTy.bits .f32
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x2048x512 .bf16) (main_arg1 : FVec F S512x256 .bf16) (main_arg2 : FVec F S512x256 .bf16) (main_arg3 : FVec F S512x256 .bf16) (main_arg4 : FVec F S256x512 .bf16) : IVec S_ 1 :=
  let main_v0 : FVec F S2x2048x512 .f32 := (extf .f32 · bitsLt_bf16_f32) main_arg0
  let main_v1 : FVec F S2x2048x512 .f32 := Host.absf main_v0
  let main_cst : FVec F S_ .f32 := constant S_ .f32 0x7F800000#32
  let main_v2 : FVec F S2x2048x512 .f32 := broadcastInDim S2x2048x512 ![] bcast_S_S2x2048x512 main_cst
  let main_v3 : IVec S2x2048x512 1 := cmpf .olt main_v1 main_v2
  let main_c : IVec S_ 1 := constantI S_ 1 1#1
  let main_v4 : IVec S_ 1 := (fun x v => Host.reduce IntOp.andi x v reducesTo_S2x2048x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S512x256 .f32 := (extf .f32 · bitsLt_bf16_f32) main_arg2
  let main_v12 : FVec F S512x256 .f32 := Host.absf main_v11
  let main_cst_2 : FVec F S_ .f32 := constant S_ .f32 0x7F800000#32
  let main_v13 : FVec F S512x256 .f32 := broadcastInDim S512x256 ![] bcast_S_S512x256 main_cst_2
  let main_v14 : IVec S512x256 1 := cmpf .olt main_v12 main_v13
  let main_c_3 : IVec S_ 1 := constantI S_ 1 1#1
  let main_v15 : IVec S_ 1 := (fun x v => Host.reduce IntOp.andi x v reducesTo_S512x256_S_d0_1 h_S_) main_v14 main_c_3
  let main_v16 : IVec S_ 1 := andi main_v10 main_v15
  main_v16
-- ==== Kernel.lean ====
abbrev S2x128x512 : Shape := ⟨3, ![2, 128, 512]⟩
abbrev S512x256 : Shape := ⟨2, ![512, 256]⟩
abbrev S256x512 : Shape := ⟨2, ![256, 512]⟩
abbrev S2048x512 : Shape := ⟨2, ![2048, 512]⟩
abbrev S2x3 : Shape := ⟨2, ![2, 3]⟩
abbrev S2x12 : Shape := ⟨2, ![2, 12]⟩
abbrev S_ : Shape := ⟨0, ![]⟩
abbrev S128x256 : Shape := ⟨2, ![128, 256]⟩
abbrev S256x256 : Shape := ⟨2, ![256, 256]⟩
abbrev S1x128x512 : Shape := ⟨3, ![1, 128, 512]⟩
abbrev S128x512 : Shape := ⟨2, ![128, 512]⟩
abbrev S1x1 : Shape := ⟨2, ![1, 1]⟩
abbrev S128x64 : Shape := ⟨2, ![128, 64]⟩
abbrev S128x1 : Shape := ⟨2, ![128, 1]⟩
abbrev S128x128 : Shape := ⟨2, ![128, 128]⟩
abbrev S128 : Shape := ⟨1, ![128]⟩
abbrev S384x64 : Shape := ⟨2, ![384, 64]⟩
abbrev S128x384 : Shape := ⟨2, ![128, 384]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S512x256, .bf16⟩
  | .hbm, ⟨3, _⟩ => ⟨S512x256, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S256x512, .bf16⟩
  | .local _ .vmem, ⟨5, _⟩ => ⟨S2x128x512, .f32⟩
  | .local _ .vmem, ⟨6, _⟩ => ⟨S2048x512, .fp8e4m3⟩
  | .local _ .vmem, ⟨7, _⟩ => ⟨S2048x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v31 : BitVec 32 := Scalar.addi v19 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let c4_i32_18 : BitVec 32 := 4#32
  let v42 : BitVec 32 := Scalar.muli v41 c4_i32_18
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v43 : BitVec 32 := Scalar.addi v42 v29
  let c1_i32_58 : BitVec 32 := 1#32
  let v109 : BitVec 32 := Scalar.muli v43 c1_i32_58
  let v110 : BitVec 32 := Scalar.addi c0_i32_59 v109
  v110.toNat
def k0_dev2 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v44 : BitVec 32 := Scalar.addi v19 c2_i32
  let c4_i32_19 : BitVec 32 := 4#32
  let c0_i32_20 : BitVec 32 := 0#32
  let v45 : BitVec 1 := Scalar.cmpi .eq c4_i32_19 c0_i32_20
  let c1_i32_21 : BitVec 32 := 1#32
  let v46 : BitVec 32 := Scalar.select v45 c1_i32_21 c4_i32_19
  let v47 : BitVec 32 := Scalar.remsi v44 v46
  let c0_i32_23 : BitVec 32 := 0#32
  let v49 : BitVec 1 := Scalar.cmpi .slt v47 c0_i32_23
  let c0_i32_24 : BitVec 32 := 0#32
  let v50 : BitVec 1 := Scalar.cmpi .slt v46 c0_i32_24
  let v51 : BitVec 1 := Scalar.xori v49 v50
  let c0_i32_22 : BitVec 32 := 0#32
  let v48 : BitVec 1 := Scalar.cmpi .ne v47 c0_i32_22
  let v52 : BitVec 1 := Scalar.andi v51 v48
  let v53 : BitVec 32 := Scalar.addi v47 v46
  let v54 : BitVec 32 := Scalar.select v52 v53 v47
  let c4_i32_25 : BitVec 32 := 4#32
  let v55 : BitVec 32 := Scalar.muli v54 c4_i32_25
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v56 : BitVec 32 := Scalar.addi v55 v29
  let c1_i32_61 : BitVec 32 := 1#32
  let v111 : BitVec 32 := Scalar.muli v56 c1_i32_61
  let v112 : BitVec 32 := Scalar.addi c0_i32_62 v111
  v112.toNat
def k0_dev3 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v57 : BitVec 32 := Scalar.addi v19 c3_i32
  let c4_i32_26 : BitVec 32 := 4#32
  let c0_i32_27 : BitVec 32 := 0#32
  let v58 : BitVec 1 := Scalar.cmpi .eq c4_i32_26 c0_i32_27
  let c1_i32_28 : BitVec 32 := 1#32
  let v59 : BitVec 32 := Scalar.select v58 c1_i32_28 c4_i32_26
  let v60 : BitVec 32 := Scalar.remsi v57 v59
  let c0_i32_30 : BitVec 32 := 0#32
  let v62 : BitVec 1 := Scalar.cmpi .slt v60 c0_i32_30
  let c0_i32_31 : BitVec 32 := 0#32
  let v63 : BitVec 1 := Scalar.cmpi .slt v59 c0_i32_31
  let v64 : BitVec 1 := Scalar.xori v62 v63
  let c0_i32_29 : BitVec 32 := 0#32
  let v61 : BitVec 1 := Scalar.cmpi .ne v60 c0_i32_29
  let v65 : BitVec 1 := Scalar.andi v64 v61
  let v66 : BitVec 32 := Scalar.addi v60 v59
  let v67 : BitVec 32 := Scalar.select v65 v66 v60
  let c4_i32_32 : BitVec 32 := 4#32
  let v68 : BitVec 32 := Scalar.muli v67 c4_i32_32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v69 : BitVec 32 := Scalar.addi v68 v29
  let c1_i32_64 : BitVec 32 := 1#32
  let v113 : BitVec 32 := Scalar.muli v69 c1_i32_64
  let v114 : BitVec 32 := Scalar.addi c0_i32_65 v113
  v114.toNat
def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_33 : BitVec 32 := 4#32
  let v70 : BitVec 32 := Scalar.muli v19 c4_i32_33
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_34 : BitVec 32 := 1#32
  let v71 : BitVec 32 := Scalar.addi v29 c1_i32_34
  let c4_i32_35 : BitVec 32 := 4#32
  let c0_i32_36 : BitVec 32 := 0#32
  let v72 : BitVec 1 := Scalar.cmpi .eq c4_i32_35 c0_i32_36
  let c1_i32_37 : BitVec 32 := 1#32
  let v73 : BitVec 32 := Scalar.select v72 c1_i32_37 c4_i32_35
  let v74 : BitVec 32 := Scalar.remsi v71 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let v82 : BitVec 32 := Scalar.addi v70 v81
  let c1_i32_67 : BitVec 32 := 1#32
  let v115 : BitVec 32 := Scalar.muli v82 c1_i32_67
  let v116 : BitVec 32 := Scalar.addi c0_i32_68 v115
  v116.toNat
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_41 : BitVec 32 := 4#32
  let v83 : BitVec 32 := Scalar.muli v19 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_42 : BitVec 32 := 2#32
  let v84 : BitVec 32 := Scalar.addi v29 c2_i32_42
  let c4_i32_43 : BitVec 32 := 4#32
  let c0_i32_44 : BitVec 32 := 0#32
  let v85 : BitVec 1 := Scalar.cmpi .eq c4_i32_43 c0_i32_44
  let c1_i32_45 : BitVec 32 := 1#32
  let v86 : BitVec 32 := Scalar.select v85 c1_i32_45 c4_i32_43
  let v87 : BitVec 32 := Scalar.remsi v84 v86
  let c0_i32_47 : BitVec 32 := 0#32
  let v89 : BitVec 1 := Scalar.cmpi .slt v87 c0_i32_47
  let c0_i32_48 : BitVec 32 := 0#32
  let v90 : BitVec 1 := Scalar.cmpi .slt v86 c0_i32_48
  let v91 : BitVec 1 := Scalar.xori v89 v90
  let c0_i32_46 : BitVec 32 := 0#32
  let v88 : BitVec 1 := Scalar.cmpi .ne v87 c0_i32_46
  let v92 : BitVec 1 := Scalar.andi v91 v88
  let v93 : BitVec 32 := Scalar.addi v87 v86
  let v94 : BitVec 32 := Scalar.select v92 v93 v87
  let v95 : BitVec 32 := Scalar.addi v83 v94
  let c1_i32_70 : BitVec 32 := 1#32
  let v117 : BitVec 32 := Scalar.muli v95 c1_i32_70
  let v118 : BitVec 32 := Scalar.addi c0_i32_71 v117
  v118.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_49 : BitVec 32 := 4#32
  let v96 : BitVec 32 := Scalar.muli v19 c4_i32_49
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_50 : BitVec 32 := 3#32
  let v97 : BitVec 32 := Scalar.addi v29 c3_i32_50
  let c4_i32_51 : BitVec 32 := 4#32
  let c0_i32_52 : BitVec 32 := 0#32
  let v98 : BitVec 1 := Scalar.cmpi .eq c4_i32_51 c0_i32_52
  let c1_i32_53 : BitVec 32 := 1#32
  let v99 : BitVec 32 := Scalar.select v98 c1_i32_53 c4_i32_51
  let v100 : BitVec 32 := Scalar.remsi v97 v99
  let c0_i32_55 : BitVec 32 := 0#32
  let v102 : BitVec 1 := Scalar.cmpi .slt v100 c0_i32_55
  let c0_i32_56 : BitVec 32 := 0#32
  let v103 : BitVec 1 := Scalar.cmpi .slt v99 c0_i32_56
  let v104 : BitVec 1 := Scalar.xori v102 v103
  let c0_i32_54 : BitVec 32 := 0#32
  let v101 : BitVec 1 := Scalar.cmpi .ne v100 c0_i32_54
  let v105 : BitVec 1 := Scalar.andi v104 v101
  let v106 : BitVec 32 := Scalar.addi v100 v99
  let v107 : BitVec 32 := Scalar.select v105 v106 v100
  let v108 : BitVec 32 := Scalar.addi v96 v107
  let c1_i32_73 : BitVec 32 := 1#32
  let v119 : BitVec 32 := Scalar.muli v108 c1_i32_73
  let v120 : BitVec 32 := Scalar.addi c0_i32_74 v119
  v120.toNat
def k0_dev7 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_134 : BitVec 32 := 1#32
  let v271 : BitVec 32 := Scalar.addi v19 c1_i32_134
  let c4_i32_135 : BitVec 32 := 4#32
  let c0_i32_136 : BitVec 32 := 0#32
  let v272 : BitVec 1 := Scalar.cmpi .eq c4_i32_135 c0_i32_136
  let c1_i32_137 : BitVec 32 := 1#32
  let v273 : BitVec 32 := Scalar.select v272 c1_i32_137 c4_i32_135
  let v274 : BitVec 32 := Scalar.remsi v271 v273
  let c0_i32_139 : BitVec 32 := 0#32
  let v276 : BitVec 1 := Scalar.cmpi .slt v274 c0_i32_139
  let c0_i32_140 : BitVec 32 := 0#32
  let v277 : BitVec 1 := Scalar.cmpi .slt v273 c0_i32_140
  let v278 : BitVec 1 := Scalar.xori v276 v277
  let c0_i32_138 : BitVec 32 := 0#32
  let v275 : BitVec 1 := Scalar.cmpi .ne v274 c0_i32_138
  let v279 : BitVec 1 := Scalar.andi v278 v275
  let v280 : BitVec 32 := Scalar.addi v274 v273
  let v281 : BitVec 32 := Scalar.select v279 v280 v274
  let c4_i32_141 : BitVec 32 := 4#32
  let v282 : BitVec 32 := Scalar.muli v281 c4_i32_141
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v283 : BitVec 32 := Scalar.addi v282 v29
  let c1_i32_146 : BitVec 32 := 1#32
  let v284 : BitVec 32 := Scalar.muli v283 c1_i32_146
  let v285 : BitVec 32 := Scalar.addi c0_i32_147 v284
  v285.toNat
def k0_dev8 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_151 : BitVec 32 := 1#32
  let v292 : BitVec 32 := Scalar.addi v19 c1_i32_151
  let c4_i32_152 : BitVec 32 := 4#32
  let c0_i32_153 : BitVec 32 := 0#32
  let v293 : BitVec 1 := Scalar.cmpi .eq c4_i32_152 c0_i32_153
  let c1_i32_154 : BitVec 32 := 1#32
  let v294 : BitVec 32 := Scalar.select v293 c1_i32_154 c4_i32_152
  let v295 : BitVec 32 := Scalar.remsi v292 v294
  let c0_i32_156 : BitVec 32 := 0#32
  let v297 : BitVec 1 := Scalar.cmpi .slt v295 c0_i32_156
  let c0_i32_157 : BitVec 32 := 0#32
  let v298 : BitVec 1 := Scalar.cmpi .slt v294 c0_i32_157
  let v299 : BitVec 1 := Scalar.xori v297 v298
  let c0_i32_155 : BitVec 32 := 0#32
  let v296 : BitVec 1 := Scalar.cmpi .ne v295 c0_i32_155
  let v300 : BitVec 1 := Scalar.andi v299 v296
  let v301 : BitVec 32 := Scalar.addi v295 v294
  let v302 : BitVec 32 := Scalar.select v300 v301 v295
  let c4_i32_158 : BitVec 32 := 4#32
  let v303 : BitVec 32 := Scalar.muli v302 c4_i32_158
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v304 : BitVec 32 := Scalar.addi v303 v29
  let c1_i32_163 : BitVec 32 := 1#32
  let v305 : BitVec 32 := Scalar.muli v304 c1_i32_163
  let v306 : BitVec 32 := Scalar.addi c0_i32_164 v305
  v306.toNat
def k0_dev9 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_169 : BitVec 32 := 2#32
  let v313 : BitVec 32 := Scalar.addi v19 c2_i32_169
  let c4_i32_170 : BitVec 32 := 4#32
  let c0_i32_171 : BitVec 32 := 0#32
  let v314 : BitVec 1 := Scalar.cmpi .eq c4_i32_170 c0_i32_171
  let c1_i32_172 : BitVec 32 := 1#32
  let v315 : BitVec 32 := Scalar.select v314 c1_i32_172 c4_i32_170
  let v316 : BitVec 32 := Scalar.remsi v313 v315
  let c0_i32_174 : BitVec 32 := 0#32
  let v318 : BitVec 1 := Scalar.cmpi .slt v316 c0_i32_174
  let c0_i32_175 : BitVec 32 := 0#32
  let v319 : BitVec 1 := Scalar.cmpi .slt v315 c0_i32_175
  let v320 : BitVec 1 := Scalar.xori v318 v319
  let c0_i32_173 : BitVec 32 := 0#32
  let v317 : BitVec 1 := Scalar.cmpi .ne v316 c0_i32_173
  let v321 : BitVec 1 := Scalar.andi v320 v317
  let v322 : BitVec 32 := Scalar.addi v316 v315
  let v323 : BitVec 32 := Scalar.select v321 v322 v316
  let c4_i32_176 : BitVec 32 := 4#32
  let v324 : BitVec 32 := Scalar.muli v323 c4_i32_176
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v325 : BitVec 32 := Scalar.addi v324 v29
  let c1_i32_181 : BitVec 32 := 1#32
  let v326 : BitVec 32 := Scalar.muli v325 c1_i32_181
  let v327 : BitVec 32 := Scalar.addi c0_i32_182 v326
  v327.toNat
def k0_dev10 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_186 : BitVec 32 := 2#32
  let v334 : BitVec 32 := Scalar.addi v19 c2_i32_186
  let c4_i32_187 : BitVec 32 := 4#32
  let c0_i32_188 : BitVec 32 := 0#32
  let v335 : BitVec 1 := Scalar.cmpi .eq c4_i32_187 c0_i32_188
  let c1_i32_189 : BitVec 32 := 1#32
  let v336 : BitVec 32 := Scalar.select v335 c1_i32_189 c4_i32_187
  let v337 : BitVec 32 := Scalar.remsi v334 v336
  let c0_i32_191 : BitVec 32 := 0#32
  let v339 : BitVec 1 := Scalar.cmpi .slt v337 c0_i32_191
  let c0_i32_192 : BitVec 32 := 0#32
  let v340 : BitVec 1 := Scalar.cmpi .slt v336 c0_i32_192
  let v341 : BitVec 1 := Scalar.xori v339 v340
  let c0_i32_190 : BitVec 32 := 0#32
  let v338 : BitVec 1 := Scalar.cmpi .ne v337 c0_i32_190
  let v342 : BitVec 1 := Scalar.andi v341 v338
  let v343 : BitVec 32 := Scalar.addi v337 v336
  let v344 : BitVec 32 := Scalar.select v342 v343 v337
  let c4_i32_193 : BitVec 32 := 4#32
  let v345 : BitVec 32 := Scalar.muli v344 c4_i32_193
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v346 : BitVec 32 := Scalar.addi v345 v29
  let c1_i32_198 : BitVec 32 := 1#32
  let v347 : BitVec 32 := Scalar.muli v346 c1_i32_198
  let v348 : BitVec 32 := Scalar.addi c0_i32_199 v347
  v348.toNat
def k0_dev11 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_204 : BitVec 32 := 3#32
  let v355 : BitVec 32 := Scalar.addi v19 c3_i32_204
  let c4_i32_205 : BitVec 32 := 4#32
  let c0_i32_206 : BitVec 32 := 0#32
  let v356 : BitVec 1 := Scalar.cmpi .eq c4_i32_205 c0_i32_206
  let c1_i32_207 : BitVec 32 := 1#32
  let v357 : BitVec 32 := Scalar.select v356 c1_i32_207 c4_i32_205
  let v358 : BitVec 32 := Scalar.remsi v355 v357
  let c0_i32_209 : BitVec 32 := 0#32
  let v360 : BitVec 1 := Scalar.cmpi .slt v358 c0_i32_209
  let c0_i32_210 : BitVec 32 := 0#32
  let v361 : BitVec 1 := Scalar.cmpi .slt v357 c0_i32_210
  let v362 : BitVec 1 := Scalar.xori v360 v361
  let c0_i32_208 : BitVec 32 := 0#32
  let v359 : BitVec 1 := Scalar.cmpi .ne v358 c0_i32_208
  let v363 : BitVec 1 := Scalar.andi v362 v359
  let v364 : BitVec 32 := Scalar.addi v358 v357
  let v365 : BitVec 32 := Scalar.select v363 v364 v358
  let c4_i32_211 : BitVec 32 := 4#32
  let v366 : BitVec 32 := Scalar.muli v365 c4_i32_211
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v367 : BitVec 32 := Scalar.addi v366 v29
  let c1_i32_216 : BitVec 32 := 1#32
  let v368 : BitVec 32 := Scalar.muli v367 c1_i32_216
  let v369 : BitVec 32 := Scalar.addi c0_i32_217 v368
  v369.toNat
def k0_dev12 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_222 : BitVec 32 := 3#32
  let v376 : BitVec 32 := Scalar.addi v19 c3_i32_222
  let c4_i32_223 : BitVec 32 := 4#32
  let c0_i32_224 : BitVec 32 := 0#32
  let v377 : BitVec 1 := Scalar.cmpi .eq c4_i32_223 c0_i32_224
  let c1_i32_225 : BitVec 32 := 1#32
  let v378 : BitVec 32 := Scalar.select v377 c1_i32_225 c4_i32_223
  let v379 : BitVec 32 := Scalar.remsi v376 v378
  let c0_i32_227 : BitVec 32 := 0#32
  let v381 : BitVec 1 := Scalar.cmpi .slt v379 c0_i32_227
  let c0_i32_228 : BitVec 32 := 0#32
  let v382 : BitVec 1 := Scalar.cmpi .slt v378 c0_i32_228
  let v383 : BitVec 1 := Scalar.xori v381 v382
  let c0_i32_226 : BitVec 32 := 0#32
  let v380 : BitVec 1 := Scalar.cmpi .ne v379 c0_i32_226
  let v384 : BitVec 1 := Scalar.andi v383 v380
  let v385 : BitVec 32 := Scalar.addi v379 v378
  let v386 : BitVec 32 := Scalar.select v384 v385 v379
  let c4_i32_229 : BitVec 32 := 4#32
  let v387 : BitVec 32 := Scalar.muli v386 c4_i32_229
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v388 : BitVec 32 := Scalar.addi v387 v29
  let c1_i32_234 : BitVec 32 := 1#32
  let v389 : BitVec 32 := Scalar.muli v388 c1_i32_234
  let v390 : BitVec 32 := Scalar.addi c0_i32_235 v389
  v390.toNat
def k0_dev13 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_240 : BitVec 32 := 4#32
  let v397 : BitVec 32 := Scalar.muli v19 c4_i32_240
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_241 : BitVec 32 := 1#32
  let v398 : BitVec 32 := Scalar.addi v29 c1_i32_241
  let c4_i32_242 : BitVec 32 := 4#32
  let c0_i32_243 : BitVec 32 := 0#32
  let v399 : BitVec 1 := Scalar.cmpi .eq c4_i32_242 c0_i32_243
  let c1_i32_244 : BitVec 32 := 1#32
  let v400 : BitVec 32 := Scalar.select v399 c1_i32_244 c4_i32_242
  let v401 : BitVec 32 := Scalar.remsi v398 v400
  let c0_i32_246 : BitVec 32 := 0#32
  let v403 : BitVec 1 := Scalar.cmpi .slt v401 c0_i32_246
  let c0_i32_247 : BitVec 32 := 0#32
  let v404 : BitVec 1 := Scalar.cmpi .slt v400 c0_i32_247
  let v405 : BitVec 1 := Scalar.xori v403 v404
  let c0_i32_245 : BitVec 32 := 0#32
  let v402 : BitVec 1 := Scalar.cmpi .ne v401 c0_i32_245
  let v406 : BitVec 1 := Scalar.andi v405 v402
  let v407 : BitVec 32 := Scalar.addi v401 v400
  let v408 : BitVec 32 := Scalar.select v406 v407 v401
  let v409 : BitVec 32 := Scalar.addi v397 v408
  let c1_i32_252 : BitVec 32 := 1#32
  let v410 : BitVec 32 := Scalar.muli v409 c1_i32_252
  let v411 : BitVec 32 := Scalar.addi c0_i32_253 v410
  v411.toNat
def k0_dev14 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_257 : BitVec 32 := 4#32
  let v418 : BitVec 32 := Scalar.muli v19 c4_i32_257
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_258 : BitVec 32 := 1#32
  let v419 : BitVec 32 := Scalar.addi v29 c1_i32_258
  let c4_i32_259 : BitVec 32 := 4#32
  let c0_i32_260 : BitVec 32 := 0#32
  let v420 : BitVec 1 := Scalar.cmpi .eq c4_i32_259 c0_i32_260
  let c1_i32_261 : BitVec 32 := 1#32
  let v421 : BitVec 32 := Scalar.select v420 c1_i32_261 c4_i32_259
  let v422 : BitVec 32 := Scalar.remsi v419 v421
  let c0_i32_263 : BitVec 32 := 0#32
  let v424 : BitVec 1 := Scalar.cmpi .slt v422 c0_i32_263
  let c0_i32_264 : BitVec 32 := 0#32
  let v425 : BitVec 1 := Scalar.cmpi .slt v421 c0_i32_264
  let v426 : BitVec 1 := Scalar.xori v424 v425
  let c0_i32_262 : BitVec 32 := 0#32
  let v423 : BitVec 1 := Scalar.cmpi .ne v422 c0_i32_262
  let v427 : BitVec 1 := Scalar.andi v426 v423
  let v428 : BitVec 32 := Scalar.addi v422 v421
  let v429 : BitVec 32 := Scalar.select v427 v428 v422
  let v430 : BitVec 32 := Scalar.addi v418 v429
  let c1_i32_269 : BitVec 32 := 1#32
  let v431 : BitVec 32 := Scalar.muli v430 c1_i32_269
  let v432 : BitVec 32 := Scalar.addi c0_i32_270 v431
  v432.toNat
def k0_dev15 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_275 : BitVec 32 := 4#32
  let v439 : BitVec 32 := Scalar.muli v19 c4_i32_275
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_276 : BitVec 32 := 2#32
  let v440 : BitVec 32 := Scalar.addi v29 c2_i32_276
  let c4_i32_277 : BitVec 32 := 4#32
  let c0_i32_278 : BitVec 32 := 0#32
  let v441 : BitVec 1 := Scalar.cmpi .eq c4_i32_277 c0_i32_278
  let c1_i32_279 : BitVec 32 := 1#32
  let v442 : BitVec 32 := Scalar.select v441 c1_i32_279 c4_i32_277
  let v443 : BitVec 32 := Scalar.remsi v440 v442
  let c0_i32_281 : BitVec 32 := 0#32
  let v445 : BitVec 1 := Scalar.cmpi .slt v443 c0_i32_281
  let c0_i32_282 : BitVec 32 := 0#32
  let v446 : BitVec 1 := Scalar.cmpi .slt v442 c0_i32_282
  let v447 : BitVec 1 := Scalar.xori v445 v446
  let c0_i32_280 : BitVec 32 := 0#32
  let v444 : BitVec 1 := Scalar.cmpi .ne v443 c0_i32_280
  let v448 : BitVec 1 := Scalar.andi v447 v444
  let v449 : BitVec 32 := Scalar.addi v443 v442
  let v450 : BitVec 32 := Scalar.select v448 v449 v443
  let v451 : BitVec 32 := Scalar.addi v439 v450
  let c1_i32_287 : BitVec 32 := 1#32
  let v452 : BitVec 32 := Scalar.muli v451 c1_i32_287
  let v453 : BitVec 32 := Scalar.addi c0_i32_288 v452
  v453.toNat
def k0_dev16 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_292 : BitVec 32 := 4#32
  let v460 : BitVec 32 := Scalar.muli v19 c4_i32_292
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_293 : BitVec 32 := 2#32
  let v461 : BitVec 32 := Scalar.addi v29 c2_i32_293
  let c4_i32_294 : BitVec 32 := 4#32
  let c0_i32_295 : BitVec 32 := 0#32
  let v462 : BitVec 1 := Scalar.cmpi .eq c4_i32_294 c0_i32_295
  let c1_i32_296 : BitVec 32 := 1#32
  let v463 : BitVec 32 := Scalar.select v462 c1_i32_296 c4_i32_294
  let v464 : BitVec 32 := Scalar.remsi v461 v463
  let c0_i32_298 : BitVec 32 := 0#32
  let v466 : BitVec 1 := Scalar.cmpi .slt v464 c0_i32_298
  let c0_i32_299 : BitVec 32 := 0#32
  let v467 : BitVec 1 := Scalar.cmpi .slt v463 c0_i32_299
  let v468 : BitVec 1 := Scalar.xori v466 v467
  let c0_i32_297 : BitVec 32 := 0#32
  let v465 : BitVec 1 := Scalar.cmpi .ne v464 c0_i32_297
  let v469 : BitVec 1 := Scalar.andi v468 v465
  let v470 : BitVec 32 := Scalar.addi v464 v463
  let v471 : BitVec 32 := Scalar.select v469 v470 v464
  let v472 : BitVec 32 := Scalar.addi v460 v471
  let c1_i32_304 : BitVec 32 := 1#32
  let v473 : BitVec 32 := Scalar.muli v472 c1_i32_304
  let v474 : BitVec 32 := Scalar.addi c0_i32_305 v473
  v474.toNat
def k0_dev17 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_310 : BitVec 32 := 4#32
  let v481 : BitVec 32 := Scalar.muli v19 c4_i32_310
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_311 : BitVec 32 := 3#32
  let v482 : BitVec 32 := Scalar.addi v29 c3_i32_311
  let c4_i32_312 : BitVec 32 := 4#32
  let c0_i32_313 : BitVec 32 := 0#32
  let v483 : BitVec 1 := Scalar.cmpi .eq c4_i32_312 c0_i32_313
  let c1_i32_314 : BitVec 32 := 1#32
  let v484 : BitVec 32 := Scalar.select v483 c1_i32_314 c4_i32_312
  let v485 : BitVec 32 := Scalar.remsi v482 v484
  let c0_i32_316 : BitVec 32 := 0#32
  let v487 : BitVec 1 := Scalar.cmpi .slt v485 c0_i32_316
  let c0_i32_317 : BitVec 32 := 0#32
  let v488 : BitVec 1 := Scalar.cmpi .slt v484 c0_i32_317
  let v489 : BitVec 1 := Scalar.xori v487 v488
  let c0_i32_315 : BitVec 32 := 0#32
  let v486 : BitVec 1 := Scalar.cmpi .ne v485 c0_i32_315
  let v490 : BitVec 1 := Scalar.andi v489 v486
  let v491 : BitVec 32 := Scalar.addi v485 v484
  let v492 : BitVec 32 := Scalar.select v490 v491 v485
  let v493 : BitVec 32 := Scalar.addi v481 v492
  let c1_i32_322 : BitVec 32 := 1#32
  let v494 : BitVec 32 := Scalar.muli v493 c1_i32_322
  let v495 : BitVec 32 := Scalar.addi c0_i32_323 v494
  v495.toNat
def k0_dev18 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_327 : BitVec 32 := 4#32
  let v502 : BitVec 32 := Scalar.muli v19 c4_i32_327
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_328 : BitVec 32 := 3#32
  let v503 : BitVec 32 := Scalar.addi v29 c3_i32_328
  let c4_i32_329 : BitVec 32 := 4#32
  let c0_i32_330 : BitVec 32 := 0#32
  let v504 : BitVec 1 := Scalar.cmpi .eq c4_i32_329 c0_i32_330
  let c1_i32_331 : BitVec 32 := 1#32
  let v505 : BitVec 32 := Scalar.select v504 c1_i32_331 c4_i32_329
  let v506 : BitVec 32 := Scalar.remsi v503 v505
  let c0_i32_333 : BitVec 32 := 0#32
  let v508 : BitVec 1 := Scalar.cmpi .slt v506 c0_i32_333
  let c0_i32_334 : BitVec 32 := 0#32
  let v509 : BitVec 1 := Scalar.cmpi .slt v505 c0_i32_334
  let v510 : BitVec 1 := Scalar.xori v508 v509
  let c0_i32_332 : BitVec 32 := 0#32
  let v507 : BitVec 1 := Scalar.cmpi .ne v506 c0_i32_332
  let v511 : BitVec 1 := Scalar.andi v510 v507
  let v512 : BitVec 32 := Scalar.addi v506 v505
  let v513 : BitVec 32 := Scalar.select v511 v512 v506
  let v514 : BitVec 32 := Scalar.addi v502 v513
  let c1_i32_339 : BitVec 32 := 1#32
  let v515 : BitVec 32 := Scalar.muli v514 c1_i32_339
  let v516 : BitVec 32 := Scalar.addi c0_i32_340 v515
  v516.toNat
def k0_dev19 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_369 : BitVec 32 := 4#32
  let v545 : BitVec 32 := Scalar.muli v19 c4_i32_369
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_370 : BitVec 32 := 1#32
  let v546 : BitVec 32 := Scalar.addi v29 c1_i32_370
  let c4_i32_371 : BitVec 32 := 4#32
  let c0_i32_372 : BitVec 32 := 0#32
  let v547 : BitVec 1 := Scalar.cmpi .eq c4_i32_371 c0_i32_372
  let c1_i32_373 : BitVec 32 := 1#32
  let v548 : BitVec 32 := Scalar.select v547 c1_i32_373 c4_i32_371
  let v549 : BitVec 32 := Scalar.remsi v546 v548
  let c0_i32_375 : BitVec 32 := 0#32
  let v551 : BitVec 1 := Scalar.cmpi .slt v549 c0_i32_375
  let c0_i32_376 : BitVec 32 := 0#32
  let v552 : BitVec 1 := Scalar.cmpi .slt v548 c0_i32_376
  let v553 : BitVec 1 := Scalar.xori v551 v552
  let c0_i32_374 : BitVec 32 := 0#32
  let v550 : BitVec 1 := Scalar.cmpi .ne v549 c0_i32_374
  let v554 : BitVec 1 := Scalar.andi v553 v550
  let v555 : BitVec 32 := Scalar.addi v549 v548
  let v556 : BitVec 32 := Scalar.select v554 v555 v549
  let v557 : BitVec 32 := Scalar.addi v545 v556
  let c1_i32_380 : BitVec 32 := 1#32
  let v558 : BitVec 32 := Scalar.muli v557 c1_i32_380
  let v559 : BitVec 32 := Scalar.addi c0_i32_381 v558
  v559.toNat
def k0_dev20 (d0 : Dev nD) : Nat :=
  let c0_i32_398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_385 : BitVec 32 := 4#32
  let v566 : BitVec 32 := Scalar.muli v19 c4_i32_385
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_386 : BitVec 32 := 1#32
  let v567 : BitVec 32 := Scalar.addi v29 c1_i32_386
  let c4_i32_387 : BitVec 32 := 4#32
  let c0_i32_388 : BitVec 32 := 0#32
  let v568 : BitVec 1 := Scalar.cmpi .eq c4_i32_387 c0_i32_388
  let c1_i32_389 : BitVec 32 := 1#32
  let v569 : BitVec 32 := Scalar.select v568 c1_i32_389 c4_i32_387
  let v570 : BitVec 32 := Scalar.remsi v567 v569
  let c0_i32_391 : BitVec 32 := 0#32
  let v572 : BitVec 1 := Scalar.cmpi .slt v570 c0_i32_391
  let c0_i32_392 : BitVec 32 := 0#32
  let v573 : BitVec 1 := Scalar.cmpi .slt v569 c0_i32_392
  let v574 : BitVec 1 := Scalar.xori v572 v573
  let c0_i32_390 : BitVec 32 := 0#32
  let v571 : BitVec 1 := Scalar.cmpi .ne v570 c0_i32_390
  let v575 : BitVec 1 := Scalar.andi v574 v571
  let v576 : BitVec 32 := Scalar.addi v570 v569
  let v577 : BitVec 32 := Scalar.select v575 v576 v570
  let v578 : BitVec 32 := Scalar.addi v566 v577
  let c1_i32_397 : BitVec 32 := 1#32
  let v579 : BitVec 32 := Scalar.muli v578 c1_i32_397
  let v580 : BitVec 32 := Scalar.addi c0_i32_398 v579
  v580.toNat
def k0_dev21 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_403 : BitVec 32 := 4#32
  let v587 : BitVec 32 := Scalar.muli v19 c4_i32_403
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_404 : BitVec 32 := 2#32
  let v588 : BitVec 32 := Scalar.addi v29 c2_i32_404
  let c4_i32_405 : BitVec 32 := 4#32
  let c0_i32_406 : BitVec 32 := 0#32
  let v589 : BitVec 1 := Scalar.cmpi .eq c4_i32_405 c0_i32_406
  let c1_i32_407 : BitVec 32 := 1#32
  let v590 : BitVec 32 := Scalar.select v589 c1_i32_407 c4_i32_405
  let v591 : BitVec 32 := Scalar.remsi v588 v590
  let c0_i32_409 : BitVec 32 := 0#32
  let v593 : BitVec 1 := Scalar.cmpi .slt v591 c0_i32_409
  let c0_i32_410 : BitVec 32 := 0#32
  let v594 : BitVec 1 := Scalar.cmpi .slt v590 c0_i32_410
  let v595 : BitVec 1 := Scalar.xori v593 v594
  let c0_i32_408 : BitVec 32 := 0#32
  let v592 : BitVec 1 := Scalar.cmpi .ne v591 c0_i32_408
  let v596 : BitVec 1 := Scalar.andi v595 v592
  let v597 : BitVec 32 := Scalar.addi v591 v590
  let v598 : BitVec 32 := Scalar.select v596 v597 v591
  let v599 : BitVec 32 := Scalar.addi v587 v598
  let c1_i32_415 : BitVec 32 := 1#32
  let v600 : BitVec 32 := Scalar.muli v599 c1_i32_415
  let v601 : BitVec 32 := Scalar.addi c0_i32_416 v600
  v601.toNat
def k0_dev22 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_420 : BitVec 32 := 4#32
  let v608 : BitVec 32 := Scalar.muli v19 c4_i32_420
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_421 : BitVec 32 := 2#32
  let v609 : BitVec 32 := Scalar.addi v29 c2_i32_421
  let c4_i32_422 : BitVec 32 := 4#32
  let c0_i32_423 : BitVec 32 := 0#32
  let v610 : BitVec 1 := Scalar.cmpi .eq c4_i32_422 c0_i32_423
  let c1_i32_424 : BitVec 32 := 1#32
  let v611 : BitVec 32 := Scalar.select v610 c1_i32_424 c4_i32_422
  let v612 : BitVec 32 := Scalar.remsi v609 v611
  let c0_i32_426 : BitVec 32 := 0#32
  let v614 : BitVec 1 := Scalar.cmpi .slt v612 c0_i32_426
  let c0_i32_427 : BitVec 32 := 0#32
  let v615 : BitVec 1 := Scalar.cmpi .slt v611 c0_i32_427
  let v616 : BitVec 1 := Scalar.xori v614 v615
  let c0_i32_425 : BitVec 32 := 0#32
  let v613 : BitVec 1 := Scalar.cmpi .ne v612 c0_i32_425
  let v617 : BitVec 1 := Scalar.andi v616 v613
  let v618 : BitVec 32 := Scalar.addi v612 v611
  let v619 : BitVec 32 := Scalar.select v617 v618 v612
  let v620 : BitVec 32 := Scalar.addi v608 v619
  let c1_i32_432 : BitVec 32 := 1#32
  let v621 : BitVec 32 := Scalar.muli v620 c1_i32_432
  let v622 : BitVec 32 := Scalar.addi c0_i32_433 v621
  v622.toNat
def k0_dev23 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_438 : BitVec 32 := 4#32
  let v629 : BitVec 32 := Scalar.muli v19 c4_i32_438
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_439 : BitVec 32 := 3#32
  let v630 : BitVec 32 := Scalar.addi v29 c3_i32_439
  let c4_i32_440 : BitVec 32 := 4#32
  let c0_i32_441 : BitVec 32 := 0#32
  let v631 : BitVec 1 := Scalar.cmpi .eq c4_i32_440 c0_i32_441
  let c1_i32_442 : BitVec 32 := 1#32
  let v632 : BitVec 32 := Scalar.select v631 c1_i32_442 c4_i32_440
  let v633 : BitVec 32 := Scalar.remsi v630 v632
  let c0_i32_444 : BitVec 32 := 0#32
  let v635 : BitVec 1 := Scalar.cmpi .slt v633 c0_i32_444
  let c0_i32_445 : BitVec 32 := 0#32
  let v636 : BitVec 1 := Scalar.cmpi .slt v632 c0_i32_445
  let v637 : BitVec 1 := Scalar.xori v635 v636
  let c0_i32_443 : BitVec 32 := 0#32
  let v634 : BitVec 1 := Scalar.cmpi .ne v633 c0_i32_443
  let v638 : BitVec 1 := Scalar.andi v637 v634
  let v639 : BitVec 32 := Scalar.addi v633 v632
  let v640 : BitVec 32 := Scalar.select v638 v639 v633
  let v641 : BitVec 32 := Scalar.addi v629 v640
  let c1_i32_450 : BitVec 32 := 1#32
  let v642 : BitVec 32 := Scalar.muli v641 c1_i32_450
  let v643 : BitVec 32 := Scalar.addi c0_i32_451 v642
  v643.toNat
def k0_dev24 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_455 : BitVec 32 := 4#32
  let v650 : BitVec 32 := Scalar.muli v19 c4_i32_455
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_456 : BitVec 32 := 3#32
  let v651 : BitVec 32 := Scalar.addi v29 c3_i32_456
  let c4_i32_457 : BitVec 32 := 4#32
  let c0_i32_458 : BitVec 32 := 0#32
  let v652 : BitVec 1 := Scalar.cmpi .eq c4_i32_457 c0_i32_458
  let c1_i32_459 : BitVec 32 := 1#32
  let v653 : BitVec 32 := Scalar.select v652 c1_i32_459 c4_i32_457
  let v654 : BitVec 32 := Scalar.remsi v651 v653
  let c0_i32_461 : BitVec 32 := 0#32
  let v656 : BitVec 1 := Scalar.cmpi .slt v654 c0_i32_461
  let c0_i32_462 : BitVec 32 := 0#32
  let v657 : BitVec 1 := Scalar.cmpi .slt v653 c0_i32_462
  let v658 : BitVec 1 := Scalar.xori v656 v657
  let c0_i32_460 : BitVec 32 := 0#32
  let v655 : BitVec 1 := Scalar.cmpi .ne v654 c0_i32_460
  let v659 : BitVec 1 := Scalar.andi v658 v655
  let v660 : BitVec 32 := Scalar.addi v654 v653
  let v661 : BitVec 32 := Scalar.select v659 v660 v654
  let v662 : BitVec 32 := Scalar.addi v650 v661
  let c1_i32_467 : BitVec 32 := 1#32
  let v663 : BitVec 32 := Scalar.muli v662 c1_i32_467
  let v664 : BitVec 32 := Scalar.addi c0_i32_468 v663
  v664.toNat
def k0_dev25 (d0 : Dev nD) : Nat :=
  let c0_i32_505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_493 : BitVec 32 := 4#32
  let v683 : BitVec 32 := Scalar.muli v19 c4_i32_493
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_494 : BitVec 32 := 1#32
  let v684 : BitVec 32 := Scalar.addi v29 c1_i32_494
  let c4_i32_495 : BitVec 32 := 4#32
  let c0_i32_496 : BitVec 32 := 0#32
  let v685 : BitVec 1 := Scalar.cmpi .eq c4_i32_495 c0_i32_496
  let c1_i32_497 : BitVec 32 := 1#32
  let v686 : BitVec 32 := Scalar.select v685 c1_i32_497 c4_i32_495
  let v687 : BitVec 32 := Scalar.remsi v684 v686
  let c0_i32_499 : BitVec 32 := 0#32
  let v689 : BitVec 1 := Scalar.cmpi .slt v687 c0_i32_499
  let c0_i32_500 : BitVec 32 := 0#32
  let v690 : BitVec 1 := Scalar.cmpi .slt v686 c0_i32_500
  let v691 : BitVec 1 := Scalar.xori v689 v690
  let c0_i32_498 : BitVec 32 := 0#32
  let v688 : BitVec 1 := Scalar.cmpi .ne v687 c0_i32_498
  let v692 : BitVec 1 := Scalar.andi v691 v688
  let v693 : BitVec 32 := Scalar.addi v687 v686
  let v694 : BitVec 32 := Scalar.select v692 v693 v687
  let v695 : BitVec 32 := Scalar.addi v683 v694
  let c1_i32_504 : BitVec 32 := 1#32
  let v696 : BitVec 32 := Scalar.muli v695 c1_i32_504
  let v697 : BitVec 32 := Scalar.addi c0_i32_505 v696
  v697.toNat
def k0_dev26 (d0 : Dev nD) : Nat :=
  let c0_i32_522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_509 : BitVec 32 := 4#32
  let v704 : BitVec 32 := Scalar.muli v19 c4_i32_509
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_510 : BitVec 32 := 1#32
  let v705 : BitVec 32 := Scalar.addi v29 c1_i32_510
  let c4_i32_511 : BitVec 32 := 4#32
  let c0_i32_512 : BitVec 32 := 0#32
  let v706 : BitVec 1 := Scalar.cmpi .eq c4_i32_511 c0_i32_512
  let c1_i32_513 : BitVec 32 := 1#32
  let v707 : BitVec 32 := Scalar.select v706 c1_i32_513 c4_i32_511
  let v708 : BitVec 32 := Scalar.remsi v705 v707
  let c0_i32_515 : BitVec 32 := 0#32
  let v710 : BitVec 1 := Scalar.cmpi .slt v708 c0_i32_515
  let c0_i32_516 : BitVec 32 := 0#32
  let v711 : BitVec 1 := Scalar.cmpi .slt v707 c0_i32_516
  let v712 : BitVec 1 := Scalar.xori v710 v711
  let c0_i32_514 : BitVec 32 := 0#32
  let v709 : BitVec 1 := Scalar.cmpi .ne v708 c0_i32_514
  let v713 : BitVec 1 := Scalar.andi v712 v709
  let v714 : BitVec 32 := Scalar.addi v708 v707
  let v715 : BitVec 32 := Scalar.select v713 v714 v708
  let v716 : BitVec 32 := Scalar.addi v704 v715
  let c1_i32_521 : BitVec 32 := 1#32
  let v717 : BitVec 32 := Scalar.muli v716 c1_i32_521
  let v718 : BitVec 32 := Scalar.addi c0_i32_522 v717
  v718.toNat
def k0_dev27 (d0 : Dev nD) : Nat :=
  let c0_i32_539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_527 : BitVec 32 := 4#32
  let v725 : BitVec 32 := Scalar.muli v19 c4_i32_527
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_528 : BitVec 32 := 2#32
  let v726 : BitVec 32 := Scalar.addi v29 c2_i32_528
  let c4_i32_529 : BitVec 32 := 4#32
  let c0_i32_530 : BitVec 32 := 0#32
  let v727 : BitVec 1 := Scalar.cmpi .eq c4_i32_529 c0_i32_530
  let c1_i32_531 : BitVec 32 := 1#32
  let v728 : BitVec 32 := Scalar.select v727 c1_i32_531 c4_i32_529
  let v729 : BitVec 32 := Scalar.remsi v726 v728
  let c0_i32_533 : BitVec 32 := 0#32
  let v731 : BitVec 1 := Scalar.cmpi .slt v729 c0_i32_533
  let c0_i32_534 : BitVec 32 := 0#32
  let v732 : BitVec 1 := Scalar.cmpi .slt v728 c0_i32_534
  let v733 : BitVec 1 := Scalar.xori v731 v732
  let c0_i32_532 : BitVec 32 := 0#32
  let v730 : BitVec 1 := Scalar.cmpi .ne v729 c0_i32_532
  let v734 : BitVec 1 := Scalar.andi v733 v730
  let v735 : BitVec 32 := Scalar.addi v729 v728
  let v736 : BitVec 32 := Scalar.select v734 v735 v729
  let v737 : BitVec 32 := Scalar.addi v725 v736
  let c1_i32_538 : BitVec 32 := 1#32
  let v738 : BitVec 32 := Scalar.muli v737 c1_i32_538
  let v739 : BitVec 32 := Scalar.addi c0_i32_539 v738
  v739.toNat
def k0_dev28 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_543 : BitVec 32 := 4#32
  let v746 : BitVec 32 := Scalar.muli v19 c4_i32_543
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_544 : BitVec 32 := 2#32
  let v747 : BitVec 32 := Scalar.addi v29 c2_i32_544
  let c4_i32_545 : BitVec 32 := 4#32
  let c0_i32_546 : BitVec 32 := 0#32
  let v748 : BitVec 1 := Scalar.cmpi .eq c4_i32_545 c0_i32_546
  let c1_i32_547 : BitVec 32 := 1#32
  let v749 : BitVec 32 := Scalar.select v748 c1_i32_547 c4_i32_545
  let v750 : BitVec 32 := Scalar.remsi v747 v749
  let c0_i32_549 : BitVec 32 := 0#32
  let v752 : BitVec 1 := Scalar.cmpi .slt v750 c0_i32_549
  let c0_i32_550 : BitVec 32 := 0#32
  let v753 : BitVec 1 := Scalar.cmpi .slt v749 c0_i32_550
  let v754 : BitVec 1 := Scalar.xori v752 v753
  let c0_i32_548 : BitVec 32 := 0#32
  let v751 : BitVec 1 := Scalar.cmpi .ne v750 c0_i32_548
  let v755 : BitVec 1 := Scalar.andi v754 v751
  let v756 : BitVec 32 := Scalar.addi v750 v749
  let v757 : BitVec 32 := Scalar.select v755 v756 v750
  let v758 : BitVec 32 := Scalar.addi v746 v757
  let c1_i32_555 : BitVec 32 := 1#32
  let v759 : BitVec 32 := Scalar.muli v758 c1_i32_555
  let v760 : BitVec 32 := Scalar.addi c0_i32_556 v759
  v760.toNat
def k0_dev29 (d0 : Dev nD) : Nat :=
  let c0_i32_574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_561 : BitVec 32 := 4#32
  let v767 : BitVec 32 := Scalar.muli v19 c4_i32_561
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_562 : BitVec 32 := 3#32
  let v768 : BitVec 32 := Scalar.addi v29 c3_i32_562
  let c4_i32_563 : BitVec 32 := 4#32
  let c0_i32_564 : BitVec 32 := 0#32
  let v769 : BitVec 1 := Scalar.cmpi .eq c4_i32_563 c0_i32_564
  let c1_i32_565 : BitVec 32 := 1#32
  let v770 : BitVec 32 := Scalar.select v769 c1_i32_565 c4_i32_563
  let v771 : BitVec 32 := Scalar.remsi v768 v770
  let c0_i32_567 : BitVec 32 := 0#32
  let v773 : BitVec 1 := Scalar.cmpi .slt v771 c0_i32_567
  let c0_i32_568 : BitVec 32 := 0#32
  let v774 : BitVec 1 := Scalar.cmpi .slt v770 c0_i32_568
  let v775 : BitVec 1 := Scalar.xori v773 v774
  let c0_i32_566 : BitVec 32 := 0#32
  let v772 : BitVec 1 := Scalar.cmpi .ne v771 c0_i32_566
  let v776 : BitVec 1 := Scalar.andi v775 v772
  let v777 : BitVec 32 := Scalar.addi v771 v770
  let v778 : BitVec 32 := Scalar.select v776 v777 v771
  let v779 : BitVec 32 := Scalar.addi v767 v778
  let c1_i32_573 : BitVec 32 := 1#32
  let v780 : BitVec 32 := Scalar.muli v779 c1_i32_573
  let v781 : BitVec 32 := Scalar.addi c0_i32_574 v780
  v781.toNat
def k0_dev30 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_578 : BitVec 32 := 4#32
  let v788 : BitVec 32 := Scalar.muli v19 c4_i32_578
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_579 : BitVec 32 := 3#32
  let v789 : BitVec 32 := Scalar.addi v29 c3_i32_579
  let c4_i32_580 : BitVec 32 := 4#32
  let c0_i32_581 : BitVec 32 := 0#32
  let v790 : BitVec 1 := Scalar.cmpi .eq c4_i32_580 c0_i32_581
  let c1_i32_582 : BitVec 32 := 1#32
  let v791 : BitVec 32 := Scalar.select v790 c1_i32_582 c4_i32_580
  let v792 : BitVec 32 := Scalar.remsi v789 v791
  let c0_i32_584 : BitVec 32 := 0#32
  let v794 : BitVec 1 := Scalar.cmpi .slt v792 c0_i32_584
  let c0_i32_585 : BitVec 32 := 0#32
  let v795 : BitVec 1 := Scalar.cmpi .slt v791 c0_i32_585
  let v796 : BitVec 1 := Scalar.xori v794 v795
  let c0_i32_583 : BitVec 32 := 0#32
  let v793 : BitVec 1 := Scalar.cmpi .ne v792 c0_i32_583
  let v797 : BitVec 1 := Scalar.andi v796 v793
  let v798 : BitVec 32 := Scalar.addi v792 v791
  let v799 : BitVec 32 := Scalar.select v797 v798 v792
  let v800 : BitVec 32 := Scalar.addi v788 v799
  let c1_i32_590 : BitVec 32 := 1#32
  let v801 : BitVec 32 := Scalar.muli v800 c1_i32_590
  let v802 : BitVec 32 := Scalar.addi c0_i32_591 v801
  v802.toNat
def k0_dev31 (d0 : Dev nD) : Nat :=
  let c0_i32_627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_616 : BitVec 32 := 4#32
  let v821 : BitVec 32 := Scalar.muli v19 c4_i32_616
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_617 : BitVec 32 := 1#32
  let v822 : BitVec 32 := Scalar.addi v29 c1_i32_617
  let c4_i32_618 : BitVec 32 := 4#32
  let c0_i32_619 : BitVec 32 := 0#32
  let v823 : BitVec 1 := Scalar.cmpi .eq c4_i32_618 c0_i32_619
  let c1_i32_620 : BitVec 32 := 1#32
  let v824 : BitVec 32 := Scalar.select v823 c1_i32_620 c4_i32_618
  let v825 : BitVec 32 := Scalar.remsi v822 v824
  let c0_i32_622 : BitVec 32 := 0#32
  let v827 : BitVec 1 := Scalar.cmpi .slt v825 c0_i32_622
  let c0_i32_623 : BitVec 32 := 0#32
  let v828 : BitVec 1 := Scalar.cmpi .slt v824 c0_i32_623
  let v829 : BitVec 1 := Scalar.xori v827 v828
  let c0_i32_621 : BitVec 32 := 0#32
  let v826 : BitVec 1 := Scalar.cmpi .ne v825 c0_i32_621
  let v830 : BitVec 1 := Scalar.andi v829 v826
  let v831 : BitVec 32 := Scalar.addi v825 v824
  let v832 : BitVec 32 := Scalar.select v830 v831 v825
  let v833 : BitVec 32 := Scalar.addi v821 v832
  let c1_i32_626 : BitVec 32 := 1#32
  let v834 : BitVec 32 := Scalar.muli v833 c1_i32_626
  let v835 : BitVec 32 := Scalar.addi c0_i32_627 v834
  v835.toNat
def k0_dev32 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_631 : BitVec 32 := 4#32
  let v842 : BitVec 32 := Scalar.muli v19 c4_i32_631
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_632 : BitVec 32 := 1#32
  let v843 : BitVec 32 := Scalar.addi v29 c1_i32_632
  let c4_i32_633 : BitVec 32 := 4#32
  let c0_i32_634 : BitVec 32 := 0#32
  let v844 : BitVec 1 := Scalar.cmpi .eq c4_i32_633 c0_i32_634
  let c1_i32_635 : BitVec 32 := 1#32
  let v845 : BitVec 32 := Scalar.select v844 c1_i32_635 c4_i32_633
  let v846 : BitVec 32 := Scalar.remsi v843 v845
  let c0_i32_637 : BitVec 32 := 0#32
  let v848 : BitVec 1 := Scalar.cmpi .slt v846 c0_i32_637
  let c0_i32_638 : BitVec 32 := 0#32
  let v849 : BitVec 1 := Scalar.cmpi .slt v845 c0_i32_638
  let v850 : BitVec 1 := Scalar.xori v848 v849
  let c0_i32_636 : BitVec 32 := 0#32
  let v847 : BitVec 1 := Scalar.cmpi .ne v846 c0_i32_636
  let v851 : BitVec 1 := Scalar.andi v850 v847
  let v852 : BitVec 32 := Scalar.addi v846 v845
  let v853 : BitVec 32 := Scalar.select v851 v852 v846
  let v854 : BitVec 32 := Scalar.addi v842 v853
  let c1_i32_643 : BitVec 32 := 1#32
  let v855 : BitVec 32 := Scalar.muli v854 c1_i32_643
  let v856 : BitVec 32 := Scalar.addi c0_i32_644 v855
  v856.toNat
def k0_dev33 (d0 : Dev nD) : Nat :=
  let c0_i32_661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_649 : BitVec 32 := 4#32
  let v863 : BitVec 32 := Scalar.muli v19 c4_i32_649
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_650 : BitVec 32 := 2#32
  let v864 : BitVec 32 := Scalar.addi v29 c2_i32_650
  let c4_i32_651 : BitVec 32 := 4#32
  let c0_i32_652 : BitVec 32 := 0#32
  let v865 : BitVec 1 := Scalar.cmpi .eq c4_i32_651 c0_i32_652
  let c1_i32_653 : BitVec 32 := 1#32
  let v866 : BitVec 32 := Scalar.select v865 c1_i32_653 c4_i32_651
  let v867 : BitVec 32 := Scalar.remsi v864 v866
  let c0_i32_655 : BitVec 32 := 0#32
  let v869 : BitVec 1 := Scalar.cmpi .slt v867 c0_i32_655
  let c0_i32_656 : BitVec 32 := 0#32
  let v870 : BitVec 1 := Scalar.cmpi .slt v866 c0_i32_656
  let v871 : BitVec 1 := Scalar.xori v869 v870
  let c0_i32_654 : BitVec 32 := 0#32
  let v868 : BitVec 1 := Scalar.cmpi .ne v867 c0_i32_654
  let v872 : BitVec 1 := Scalar.andi v871 v868
  let v873 : BitVec 32 := Scalar.addi v867 v866
  let v874 : BitVec 32 := Scalar.select v872 v873 v867
  let v875 : BitVec 32 := Scalar.addi v863 v874
  let c1_i32_660 : BitVec 32 := 1#32
  let v876 : BitVec 32 := Scalar.muli v875 c1_i32_660
  let v877 : BitVec 32 := Scalar.addi c0_i32_661 v876
  v877.toNat
def k0_dev34 (d0 : Dev nD) : Nat :=
  let c0_i32_678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_665 : BitVec 32 := 4#32
  let v884 : BitVec 32 := Scalar.muli v19 c4_i32_665
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_666 : BitVec 32 := 2#32
  let v885 : BitVec 32 := Scalar.addi v29 c2_i32_666
  let c4_i32_667 : BitVec 32 := 4#32
  let c0_i32_668 : BitVec 32 := 0#32
  let v886 : BitVec 1 := Scalar.cmpi .eq c4_i32_667 c0_i32_668
  let c1_i32_669 : BitVec 32 := 1#32
  let v887 : BitVec 32 := Scalar.select v886 c1_i32_669 c4_i32_667
  let v888 : BitVec 32 := Scalar.remsi v885 v887
  let c0_i32_671 : BitVec 32 := 0#32
  let v890 : BitVec 1 := Scalar.cmpi .slt v888 c0_i32_671
  let c0_i32_672 : BitVec 32 := 0#32
  let v891 : BitVec 1 := Scalar.cmpi .slt v887 c0_i32_672
  let v892 : BitVec 1 := Scalar.xori v890 v891
  let c0_i32_670 : BitVec 32 := 0#32
  let v889 : BitVec 1 := Scalar.cmpi .ne v888 c0_i32_670
  let v893 : BitVec 1 := Scalar.andi v892 v889
  let v894 : BitVec 32 := Scalar.addi v888 v887
  let v895 : BitVec 32 := Scalar.select v893 v894 v888
  let v896 : BitVec 32 := Scalar.addi v884 v895
  let c1_i32_677 : BitVec 32 := 1#32
  let v897 : BitVec 32 := Scalar.muli v896 c1_i32_677
  let v898 : BitVec 32 := Scalar.addi c0_i32_678 v897
  v898.toNat
def k0_dev35 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_683 : BitVec 32 := 4#32
  let v905 : BitVec 32 := Scalar.muli v19 c4_i32_683
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_684 : BitVec 32 := 3#32
  let v906 : BitVec 32 := Scalar.addi v29 c3_i32_684
  let c4_i32_685 : BitVec 32 := 4#32
  let c0_i32_686 : BitVec 32 := 0#32
  let v907 : BitVec 1 := Scalar.cmpi .eq c4_i32_685 c0_i32_686
  let c1_i32_687 : BitVec 32 := 1#32
  let v908 : BitVec 32 := Scalar.select v907 c1_i32_687 c4_i32_685
  let v909 : BitVec 32 := Scalar.remsi v906 v908
  let c0_i32_689 : BitVec 32 := 0#32
  let v911 : BitVec 1 := Scalar.cmpi .slt v909 c0_i32_689
  let c0_i32_690 : BitVec 32 := 0#32
  let v912 : BitVec 1 := Scalar.cmpi .slt v908 c0_i32_690
  let v913 : BitVec 1 := Scalar.xori v911 v912
  let c0_i32_688 : BitVec 32 := 0#32
  let v910 : BitVec 1 := Scalar.cmpi .ne v909 c0_i32_688
  let v914 : BitVec 1 := Scalar.andi v913 v910
  let v915 : BitVec 32 := Scalar.addi v909 v908
  let v916 : BitVec 32 := Scalar.select v914 v915 v909
  let v917 : BitVec 32 := Scalar.addi v905 v916
  let c1_i32_695 : BitVec 32 := 1#32
  let v918 : BitVec 32 := Scalar.muli v917 c1_i32_695
  let v919 : BitVec 32 := Scalar.addi c0_i32_696 v918
  v919.toNat
def k0_dev36 (d0 : Dev nD) : Nat :=
  let c0_i32_713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_700 : BitVec 32 := 4#32
  let v926 : BitVec 32 := Scalar.muli v19 c4_i32_700
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_701 : BitVec 32 := 3#32
  let v927 : BitVec 32 := Scalar.addi v29 c3_i32_701
  let c4_i32_702 : BitVec 32 := 4#32
  let c0_i32_703 : BitVec 32 := 0#32
  let v928 : BitVec 1 := Scalar.cmpi .eq c4_i32_702 c0_i32_703
  let c1_i32_704 : BitVec 32 := 1#32
  let v929 : BitVec 32 := Scalar.select v928 c1_i32_704 c4_i32_702
  let v930 : BitVec 32 := Scalar.remsi v927 v929
  let c0_i32_706 : BitVec 32 := 0#32
  let v932 : BitVec 1 := Scalar.cmpi .slt v930 c0_i32_706
  let c0_i32_707 : BitVec 32 := 0#32
  let v933 : BitVec 1 := Scalar.cmpi .slt v929 c0_i32_707
  let v934 : BitVec 1 := Scalar.xori v932 v933
  let c0_i32_705 : BitVec 32 := 0#32
  let v931 : BitVec 1 := Scalar.cmpi .ne v930 c0_i32_705
  let v935 : BitVec 1 := Scalar.andi v934 v931
  let v936 : BitVec 32 := Scalar.addi v930 v929
  let v937 : BitVec 32 := Scalar.select v935 v936 v930
  let v938 : BitVec 32 := Scalar.addi v926 v937
  let c1_i32_712 : BitVec 32 := 1#32
  let v939 : BitVec 32 := Scalar.muli v938 c1_i32_712
  let v940 : BitVec 32 := Scalar.addi c0_i32_713 v939
  v940.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "log_base" => some ((Real.log 10000 : ℝ) : EReal)
  | _ => none
-- ==== ReferenceIdeal.lean ====
abbrev S2x2048x512 : Shape := ⟨3, ![2, 2048, 512]⟩
abbrev S512x256 : Shape := ⟨2, ![512, 256]⟩
abbrev S256x512 : Shape := ⟨2, ![256, 512]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x32x2 : Shape := ⟨3, ![2048, 32, 2]⟩
abbrev S2048x64 : Shape := ⟨2, ![2048, 64]⟩
abbrev S2x2048x256 : Shape := ⟨3, ![2, 2048, 256]⟩
abbrev S2x2048x4x64 : Shape := ⟨4, ![2, 2048, 4, 64]⟩
abbrev S2x2048x4x32x2 : Shape := ⟨5, ![2, 2048, 4, 32, 2]⟩
abbrev S2x2048x4x32x1 : Shape := ⟨5, ![2, 2048, 4, 32, 1]⟩
abbrev S2x2048x4x32 : Shape := ⟨4, ![2, 2048, 4, 32]⟩
abbrev S1x2048x1x64 : Shape := ⟨4, ![1, 2048, 1, 64]⟩
abbrev S2x4x2048x2048 : Shape := ⟨4, ![2, 4, 2048, 2048]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩

abbrev nBuf : Space → Nat
  | .hbm => 101
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S512x256, .bf16⟩
  | .hbm, ⟨2, _⟩ => ⟨S512x256, .bf16⟩
  | .hbm, ⟨3, _⟩ => ⟨S512x256, .bf16⟩
  | .hbm, ⟨4, _⟩ => ⟨S256x512, .bf16⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048, .i32⟩
  | .hbm, ⟨23, _⟩ => ⟨S2048x1, .i32⟩
  | .hbm, ⟨24, _⟩ => ⟨S1x32, .f32⟩
  | .hbm, ⟨25, _⟩ => ⟨S2048x1, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32x2, .f32⟩
  | .hbm, ⟨31, _⟩ => ⟨S2048x64, .f32⟩
  | .hbm, ⟨32, _⟩ => ⟨S2048x32, .f32⟩
  | .hbm, ⟨33, _⟩ => ⟨S2048x32x2, .f32⟩
  | .hbm, ⟨34, _⟩ => ⟨S2048x64, .f32⟩
  | .hbm, ⟨35, _⟩ => ⟨S2x2048x256, .f32⟩
  | .hbm, ⟨36, _⟩ => ⟨S2x2048x256, .bf16⟩
  | .hbm, ⟨37, _⟩ => ⟨S2x2048x256, .f32⟩
  | .hbm, ⟨38, _⟩ => ⟨S2x2048x4x64, .f32⟩
  | .hbm, ⟨39, _⟩ => ⟨S2x2048x4x32x2, .f32⟩
  | .hbm, ⟨40, _⟩ => ⟨S2x2048x4x32x1, .f32⟩
  | .hbm, ⟨41, _⟩ => ⟨S2x2048x4x32, .f32⟩
  | .hbm, ⟨42, _⟩ => ⟨S2x2048x4x32, .f32⟩
  | .hbm, ⟨43, _⟩ => ⟨S2x2048x4x32x1, .f32⟩
  | .hbm, ⟨44, _⟩ => ⟨S2x2048x4x32, .f32⟩
  | .hbm, ⟨45, _⟩ => ⟨S2x2048x4x32x1, .f32⟩
  | .hbm, ⟨46, _⟩ => ⟨S2x2048x4x32x1, .f32⟩
  | .hbm, ⟨47, _⟩ => ⟨S2x2048x4x32x2, .f32⟩
  | .hbm, ⟨48, _⟩ => ⟨S2x2048x4x64, .f32⟩
  | .hbm, ⟨49, _⟩ => ⟨S1x2048x1x64, .f32⟩
  | .hbm, ⟨50, _⟩ => ⟨S2x2048x4x64, .f32⟩
  | .hbm, ⟨51, _⟩ => ⟨S2x2048x4x64, .f32⟩
  | .hbm, ⟨52, _⟩ => ⟨S1x2048x1x64, .f32⟩
  | .hbm, ⟨53, _⟩ => ⟨S2x2048x4x64, .f32⟩
  | .hbm, ⟨54, _⟩ => ⟨S2x2048x4x64, .f32⟩
  | .hbm, ⟨55, _⟩ => ⟨S2x2048x4x64, .f32⟩
  | .hbm, ⟨56, _⟩ => ⟨S2x2048x256, .f32⟩
  | .hbm, ⟨57, _⟩ => ⟨S2x2048x256, .bf16⟩
  | .hbm, ⟨58, _⟩ => ⟨S2x2048x256, .f32⟩
  | .hbm, ⟨59, _⟩ => ⟨S2x2048x4x64, .f32⟩
  | .hbm, ⟨60, _⟩ => ⟨S2x2048x4x32x2, .f32⟩
  | .hbm, ⟨61, _⟩ => ⟨S2x2048x4x32x1, .f32⟩
  | .hbm, ⟨62, _⟩ => ⟨S2x2048x4x32, .f32⟩
  | .hbm, ⟨63, _⟩ => ⟨S2x2048x4x32, .f32⟩
  | .hbm, ⟨64, _⟩ => ⟨S2x2048x4x32x1, .f32⟩
  | .hbm, ⟨65, _⟩ => ⟨S2x2048x4x32, .f32⟩
  | .hbm, ⟨66, _⟩ => ⟨S2x2048x4x32x1, .f32⟩
  | .hbm, ⟨67, _⟩ => ⟨S2x2048x4x32x1, .f32⟩
  | .hbm, ⟨68, _⟩ => ⟨S2x2048x4x32x2, .f32⟩
  | .hbm, ⟨69, _⟩ => ⟨S2x2048x4x64, .f32⟩
  | .hbm, ⟨70, _⟩ => ⟨S1x2048x1x64, .f32⟩
  | .hbm, ⟨71, _⟩ => ⟨S2x2048x4x64, .f32⟩
  | .hbm, ⟨72, _⟩ => ⟨S2x2048x4x64, .f32⟩
  | .hbm, ⟨73, _⟩ => ⟨S1x2048x1x64, .f32⟩
  | .hbm, ⟨74, _⟩ => ⟨S2x2048x4x64, .f32⟩
  | .hbm, ⟨75, _⟩ => ⟨S2x2048x4x64, .f32⟩
  | .hbm, ⟨76, _⟩ => ⟨S2x2048x4x64, .f32⟩
  | .hbm, ⟨77, _⟩ => ⟨S2x2048x256, .f32⟩
  | .hbm, ⟨78, _⟩ => ⟨S2x2048x256, .bf16⟩
  | .hbm, ⟨79, _⟩ => ⟨S2x2048x256, .f32⟩
  | .hbm, ⟨80, _⟩ => ⟨S2x2048x4x64, .f32⟩
  | .hbm, ⟨81, _⟩ => ⟨S2x4x2048x2048, .f32⟩
  | .hbm, ⟨82, _⟩ => ⟨S_, .f32⟩
  | .hbm, ⟨83, _⟩ => ⟨S2x4x2048x2048, .f32⟩
  | .hbm, ⟨84, _⟩ => ⟨S2x4x2048x2048, .f32⟩
  | .hbm, ⟨85, _⟩ => ⟨S_, .f32⟩
  | .hbm, ⟨86, _⟩ => ⟨S2x4x2048, .f32⟩
  | .hbm, ⟨87, _⟩ => ⟨S2x4x2048x1, .f32⟩
  | .hbm, ⟨88, _⟩ => ⟨S2x4x2048x2048, .f32⟩
  | .hbm, ⟨89, _⟩ => ⟨S2x4x2048x2048, .f32⟩
  | .hbm, ⟨90, _⟩ => ⟨S2x4x2048x2048, .f32⟩
  | .hbm, ⟨91, _⟩ => ⟨S_, .f32⟩
  | .hbm, ⟨92, _⟩ => ⟨S2x4x2048, .f32⟩
  | .hbm, ⟨93, _⟩ => ⟨S2x4x2048x1, .f32⟩
  | .hbm, ⟨94, _⟩ => ⟨S2x4x2048x2048, .f32⟩
  | .hbm, ⟨95, _⟩ => ⟨S2x4x2048x2048, .f32⟩
  | .hbm, ⟨96, _⟩ => ⟨S2x4x64x2048, .f32⟩
  | .hbm, ⟨97, _⟩ => ⟨S2x2048x4x64, .f32⟩
  | .hbm, ⟨98, _⟩ => ⟨S2x2048x256, .f32⟩
  | .hbm, ⟨99, _⟩ => ⟨S256x512, .f32⟩
  | .hbm, ⟨100, _⟩ => ⟨S2x2048x512, .f32⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_cst_3 : Ref sig .tc := ⟨.hbm, 82, rfl⟩
abbrev main_v72 : Ref sig .tc := ⟨.hbm, 83, rfl⟩
abbrev main_v73 : Ref sig .tc := ⟨.hbm, 84, rfl⟩
abbrev main_cst_4 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_5 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩

abbrev nD : Nat := 1
abbrev τ : Topo := Topo.v7x

variable {F : FTy → Type} [FloatOps F]
-- ==== Proof.Core.Prog.lean ====
/- The kernel's body written as a loop-structured program over small named values: the six peers, the sixteen
   row slabs of the gathered keys and values, the thirty copies, and the online-softmax steps. -/
module

public import proofs.«01_k».proof.Proof.Gen.KernelIdeal.Skeleton
public import Idealize.ShloMosaic.Lib.Pipeline.Regions

@[expose] public section

noncomputable section

namespace Cert.KernelIdeal.Core

open Idealize.ShloMosaic Idealize.SL.Sem Idealize.ShloMosaic.TcCoe
open Cert.KernelIdeal.Gen

variable {F : FTy → Type} [FloatOps F] [Named F]

/-! ## Devices, slabs and semaphores -/

/-- The six devices a device talks to: the three others of its column, then the three others of its plane. -/
def peer (b : Fin 6) (d : Dev nD) : Dev nD := match b with
  | 0 => ⟨k0_dev1 d, k0_dev1_lt d⟩
  | 1 => ⟨k0_dev2 d, k0_dev2_lt d⟩
  | 2 => ⟨k0_dev3 d, k0_dev3_lt d⟩
  | 3 => ⟨k0_dev4 d, k0_dev4_lt d⟩
  | 4 => ⟨k0_dev5 d, k0_dev5_lt d⟩
  | 5 => ⟨k0_dev6 d, k0_dev6_lt d⟩

/-- Which of the six a device's copy into slab `s` goes to. -/
def hop (s : Fin 16) : Fin 6 :=
  if s.val < 4 then ⟨(3 - s.val) % 6, by omega⟩ else ⟨3 + (2 - (s.val - 4) % 3), by omega⟩

/-- The slab a copy into slab `s` reads: the sender's own rows along the column, then the plane's forwards. -/
def src (s : Fin 16) : Fin 16 := if s.val < 4 then 0 else ⟨(s.val - 4) / 3, by omega⟩

/-- The semaphore a sender waits on for its copy into slab `s`: keys `t = 0`, values `t = 1`. -/
def sendSem (t : Fin 2) (s : Fin 16) : DmaSem sig :=
  if s.val < 4 then (⟨6 + 3 * t.val + (3 - s.val), by have := t.isLt; show _ < 66; omega⟩ : Fin 66)
  else (⟨18 + 12 * t.val + 3 * ((s.val - 4) / 3) + (2 - (s.val - 4) % 3), by have := t.isLt; show _ < 66; omega⟩ : Fin 66)

/-- The semaphore the receiver waits on for slab `s`. -/
def recvSem (t : Fin 2) (s : Fin 16) : DmaSem sig :=
  if s.val < 4 then (⟨12 + 3 * t.val + (s.val - 1), by have := t.isLt; show _ < 66; omega⟩ : Fin 66)
  else (⟨42 + 12 * t.val + (s.val - 4), by have := t.isLt; show _ < 66; omega⟩ : Fin 66)

/-- The barrier semaphore. -/
def barSem : Sem sig := sig.barrier 0 rfl

/-- The gathered keys and values. -/
abbrev kbuf : Memref sig .tc .vmem S2048x512 .fp8e4m3 := Memref.whole cc0_scratch0
abbrev vbuf : Memref sig .tc .vmem S2048x512 .bf16 := Memref.whole cc0_scratch1

theorem slab_inb (s : Fin 16) : ∀ a, (![128 * s.val, 0] : Fin 2 → Nat) a + S128x512.size a ≤ S2048x512.size a := by
  intro a; have := s.isLt
  fin_cases a
  · show 128 * s.val + 128 ≤ 2048; omega
  · show 0 + 512 ≤ 512; omega

/-- The rows of slab `s`. -/
abbrev slabR (s : Fin 16) : Rect S2048x512 := Rect.unit (s := S2048x512) ![128 * s.val, 0] S128x512.size (slab_inb s)
abbrev kSlab (s : Fin 16) : Memref sig .tc .vmem S128x512 .fp8e4m3 := kbuf.slice (slabR s) (fun _ => rfl)
abbrev vSlab (s : Fin 16) : Memref sig .tc .vmem S128x512 .bf16 := vbuf.slice (slabR s) (fun _ => rfl)

theorem kWord : ∀ s : Fin 16, (kSlab s).view.WordExact := by
  intro s
  refine (Memref.isWhole_whole _).wordExact_slice rfl _ ?_
  revert s; decide +kernel

theorem vWord : ∀ s : Fin 16, (vSlab s).view.WordExact := by
  intro s
  refine (Memref.isWhole_whole _).wordExact_slice rfl _ ?_
  revert s; decide +kernel

/-! ## Values -/

/-- What one width of key tile needs: its two contractions and its row facts. -/
structure Tile (n : ℕ) where
  dqk : DotDims S128x64 ⟨2, ![n, 64]⟩ ⟨2, ![128, n]⟩
  dpv : DotDims ⟨2, ![128, n]⟩ ⟨2, ![n, 64]⟩ S128x64
  red : (⟨2, ![128, n]⟩ : Shape).Reduces [1] S128
  bc : S128x1.Broadcasts ⟨2, ![128, n]⟩

def tile128 : Tile 128 := ⟨dot_S128x64_S128x64_S128x128_1_1_0_0_n_n, dot_S128x128_S128x64_S128x64_1_0_0_1_n_n,
  reduces_S128x128_S128, broadcasts_S128x1_S128x128⟩
def tile384 : Tile 384 := ⟨dot_S128x64_S384x64_S128x384_1_1_0_0_n_n, dot_S128x384_S384x64_S128x64_1_0_0_1_n_n,
  reduces_S128x384_S128, broadcasts_S128x1_S128x384⟩

section Step
variable {n : ℕ} (T : Tile n)

/-- The scaled scores of a tile. -/
def scores (q : FVec F S128x64 .bf16) (k : FVec F ⟨2, ![n, 64]⟩ .fp8e4m3) : FVec F ⟨2, ![128, n]⟩ .f32 :=
  mulf (matmul T.dqk none q (extf .bf16 k bitsLt_fp8e4m3_bf16) (constant ⟨2, ![128, n]⟩ .f32 0x00000000#32))
    (broadcast ⟨2, ![128, n]⟩ (Scalar.ofBits .f32 0x3E000000#32))

/-- The running maximum after a tile. -/
def newM (q : FVec F S128x64 .bf16) (k : FVec F ⟨2, ![n, 64]⟩ .fp8e4m3) (m : FVec F S128x1 .f32) : FVec F S128x1 .f32 :=
  maximumf m (shapeCast S128x1 (multiReduction .maximumf [1] S128 (scores T q k) 0xFF800000#32 T.red (.inl rfl) rfl) shapeCasts_S128_S128x1)

/-- The factor the earlier sums are rescaled by. -/
def alpha (q : FVec F S128x64 .bf16) (k : FVec F ⟨2, ![n, 64]⟩ .fp8e4m3) (m : FVec F S128x1 .f32) : FVec F S128x1 .f32 :=
  exp (subf m (newM T q k m))

/-- The tile's weights. -/
def weights (q : FVec F S128x64 .bf16) (k : FVec F ⟨2, ![n, 64]⟩ .fp8e4m3) (m : FVec F S128x1 .f32) : FVec F ⟨2, ![128, n]⟩ .f32 :=
  exp (subf (scores T q k) (broadcastTo ⟨2, ![128, n]⟩ (newM T q k m) T.bc))

/-- The running sum of weights after a tile. -/
def newL (q : FVec F S128x64 .bf16) (k : FVec F ⟨2, ![n, 64]⟩ .fp8e4m3) (m l : FVec F S128x1 .f32) : FVec F S128x1 .f32 :=
  addf (mulf l (alpha T q k m))
    (shapeCast S128x1 (multiReduction .add [1] S128 (weights T q k m) 0x00000000#32 T.red (.inl rfl) rfl) shapeCasts_S128_S128x1)

/-- The running weighted values after a tile. -/
def newAcc (q : FVec F S128x64 .bf16) (k : FVec F ⟨2, ![n, 64]⟩ .fp8e4m3) (v : FVec F ⟨2, ![n, 64]⟩ .bf16)
    (m : FVec F S128x1 .f32) (acc : FVec F S128x64 .f32) : FVec F S128x64 .f32 :=
  addf (mulf acc (broadcastTo S128x64 (alpha T q k m) broadcasts_S128x1_S128x64))
    (matmul T.dpv none (truncf .bf16 (weights T q k m) bitsLt_bf16_f32) v (constant S128x64 .f32 0x00000000#32))

/-- The state of the online softmax of one head: maximum, sum of weights, weighted values. -/
structure St (F : FTy → Type) [FloatOps F] where
  m : FVec F S128x1 .f32
  l : FVec F S128x1 .f32
  acc : FVec F S128x64 .f32

def st0 : St F := ⟨broadcast S128x1 (Scalar.ofBits .f32 0xF149F2CA#32), broadcast S128x1 (Scalar.ofBits .f32 0x00000000#32),
  broadcast S128x64 (Scalar.ofBits .f32 0x00000000#32)⟩

def step (q : FVec F S128x64 .bf16) (st : St F) (kv : FVec F ⟨2, ![n, 64]⟩ .fp8e4m3 × FVec F ⟨2, ![n, 64]⟩ .bf16) : St F :=
  ⟨newM T q kv.1 st.m, newL T q kv.1 st.m st.l, newAcc T q kv.1 kv.2 st.m st.acc⟩

end Step

/-- A device's cosines and sines, and the matrix that swaps the two halves of each pair. -/
def angles (d : Dev nD) : FVec F S128x256 .f32 :=
  k0_pay3 (Scalar.remsi (Scalar.divsi (Dev.word d) 1#32) 16#32) (iota .tc S128x256 32 [0] iota_S128x256_d0_w32)
    k0_pay1 2#32 k0_pay2 0#32
def cosT (d : Dev nD) : FVec F S128x256 .f32 := cos (angles d)
def sinT (d : Dev nD) : FVec F S128x256 .f32 := sin (angles d)
def rotT : FVec F S256x256 .f32 :=
  k0_pay7 (iota .tc S256x256 32 [0] iota_S256x256_d0_w32) (iota .tc S256x256 32 [1] iota_S256x256_d1_w32) k0_pay6
    (Scalar.select (Scalar.cmpi .eq 2#32 0#32) 1#32 2#32)

/-- One batch's rows through a weight matrix, -/
def proj (x : Vec F S1x128x512 .bf16) (w : Vec F S512x256 .bf16) : FVec F S128x256 .f32 :=
  matmul dot_S128x512_S512x256_S128x256_1_0_0_1_n_n none (shapeCast S128x512 x shapeCasts_S1x128x512_S128x512)
    (shapeCast S512x256 w shapeCasts_S512x256_S512x256) (constant S128x256 .f32 0x00000000#32)

/-- and rotated by the positions' angles. -/
def roped (d : Dev nD) (x : Vec F S1x128x512 .bf16) (w : Vec F S512x256 .bf16) : FVec F S128x256 .f32 :=
  addf (mulf (proj x w) (cosT d))
    (mulf (matmul dot_S128x256_S256x256_S128x256_1_0_0_1_n_n none (proj x w) rotT (constant S128x256 .f32 0x00000000#32)) (sinT d))

/-- What a device stores of its own keys and values, -/
def keyBlk (d : Dev nD) (x : Vec F S1x128x512 .bf16) (w : Vec F S512x256 .bf16) : FVec F S128x256 .fp8e4m3 :=
  shapeCast S128x256 (truncf .fp8e4m3 (roped d x w) bitsLt_fp8e4m3_f32) shapeCasts_S128x256_S128x256
def valBlk (x : Vec F S1x128x512 .bf16) (w : Vec F S512x256 .bf16) : FVec F S128x256 .bf16 :=
  shapeCast S128x256 (truncf .bf16 (proj x w) bitsLt_bf16_f32) shapeCasts_S128x256_S128x256

theorem head_slices : ∀ h : Fin 4, S128x256.Slices ![0, 64 * h.val] S128x64 := by decide +kernel

/-- and the queries of head `h`. -/
def qHead (d : Dev nD) (x : Vec F S1x128x512 .bf16) (w : Vec F S512x256 .bf16) (h : Fin 4) : FVec F S128x64 .bf16 :=
  truncf .bf16 (extractStridedSlice S128x64 ![0, 64 * h.val] (roped d x w) (head_slices h)) bitsLt_bf16_f32

/-- A head's context. -/
def ctx (st : St F) : FVec F S128x64 .f32 := divf st.acc (broadcastTo S128x64 st.l broadcasts_S128x1_S128x64)

/-- A batch's result rows from its four heads. -/
def outBlk (wo : Vec F S256x512 .bf16) (s0 s1 s2 s3 : St F) : FVec F S1x128x512 .f32 :=
  shapeCast S1x128x512 (matmul dot_S128x256_S256x512_S128x512_1_0_0_1_n_n none
    (truncf .bf16 (concatenate S128x256 1 [⟨S128x64, ctx s0⟩, ⟨S128x64, ctx s1⟩, ⟨S128x64, ctx s2⟩, ⟨S128x64, ctx s3⟩]
      concatenates_S128x64_S128x64_S128x64_S128x64_S128x256_d1) bitsLt_bf16_f32)
    (shapeCast S256x512 wo shapeCasts_S256x512_S256x512) (constant S128x512 .f32 0x00000000#32)) shapeCasts_S128x512_S1x128x512

/-! ## The program -/

/-- The kernel's programs. -/
abbrev KProg (F : FTy → Type) [FloatOps F] [Named F] := Prog (TpuEff nD τ sig (Elt F) Λ₀ .tc) PUnit

/-- The two copies into slab `s` of the device `peer (hop s) d`. -/
def send (d : Dev nD) (s : Fin 16) (k : KProg F) : KProg F :=
  .op (.enqueueDma (kSlab (src s)) (.remote (Dev.tc (peer (hop s) d)) (kSlab s) (.dma (sendSem 0 s))) (.dma (recvSem 0 s))
    (kWord _) (kWord _) ⟨⟨rfl, Or.inl rfl⟩, trivial⟩) fun _ =>
  .op (.enqueueDma (vSlab (src s)) (.remote (Dev.tc (peer (hop s) d)) (vSlab s) (.dma (sendSem 1 s))) (.dma (recvSem 1 s))
    (vWord _) (vWord _) ⟨⟨rfl, Or.inl rfl⟩, trivial⟩) fun _ => k

/-- The waits for the two landings in slab `s`. -/
def recv (s : Fin 16) (k : KProg F) : KProg F :=
  .op (.waitDma2 (recvSem 0 s) (kSlab 0) (kSlab s) (kWord _) (kWord _)) fun _ =>
  .op (.waitDma2 (recvSem 1 s) (vSlab 0) (vSlab s) (vWord _) (vWord _)) fun _ => k

/-- The waits for the two copies into slab `s` to have left. -/
def sent (s : Fin 16) (k : KProg F) : KProg F :=
  .op (.waitDma2 (sendSem 0 s) (kSlab s) (kSlab (src s)) (kWord _) (kWord _)) fun _ =>
  .op (.waitDma2 (sendSem 1 s) (vSlab s) (vSlab (src s)) (vWord _) (vWord _)) fun _ => k

/-- A list of them, one after the other. -/
def seqs {ι : Type} (f : ι → KProg F → KProg F) : List ι → KProg F → KProg F
  | [], k => k
  | i :: is, k => f i (seqs f is k)

/-- The signal to one of the six. -/
def sig1 (d : Dev nD) (b : Fin 6) (k : KProg F) : KProg F := .op (.semSignal (Dev.tc (peer b d)) barSem ((1 : ℕ) : Int)) fun _ => k

theorem tile_inb {n : ℕ} (r : ℕ) (h : r + n ≤ 2048) (j : ℕ) :
    ∀ a, (![r, 64 * (j % 8)] : Fin 2 → Nat) a + (⟨2, ![n, 64]⟩ : Shape).size a ≤ S2048x512.size a := by
  intro a; have := Nat.mod_lt j (show 0 < 8 by omega)
  fin_cases a
  · show r + n ≤ 2048; exact h
  · show 64 * (j % 8) + 64 ≤ 512; omega

/-- The `j`-th tile of the rows from `r`: 64 columns. -/
abbrev tileR (n r : ℕ) (h : r + n ≤ 2048) (j : ℕ) : Rect S2048x512 :=
  Rect.unit (s := S2048x512) ![r, 64 * (j % 8)] (⟨2, ![n, 64]⟩ : Shape).size (tile_inb r h j)

/-- The loads of the `j`-th, …, `(j + c - 1)`-th tiles of keys and values. -/
def loads (n r : ℕ) (h : r + n ≤ 2048) (hn : 0 < (⟨2, ![n, 64]⟩ : Shape).numel) : (c j : ℕ) →
    ((Fin c → FVec F ⟨2, ![n, 64]⟩ .fp8e4m3 × FVec F ⟨2, ![n, 64]⟩ .bf16) → KProg F) → KProg F
  | 0, _, k => k fun i => i.elim0
  | c + 1, j, k =>
    .op (.load kbuf (tileR n r h j).toLoadRect (View.loadsAt_vmem hn)) fun kt =>
    .op (.load vbuf (tileR n r h j).toLoadRect (View.loadsAt_vmem hn)) fun vt =>
    loads n r h hn c (j + 1) fun f => k (Fin.cons (kt, vt) f)

/-- One group of keys: its tiles loaded, every head's state advanced. -/
def group {n : ℕ} (T : Tile n) (r : ℕ) (h : r + n ≤ 2048) (hn : 0 < (⟨2, ![n, 64]⟩ : Shape).numel)
    (q : Fin 8 → FVec F S128x64 .bf16) (st : Fin 8 → St F) (k : (Fin 8 → St F) → KProg F) : KProg F :=
  loads n r h hn 8 0 fun kv => k fun i => step T (q i) (st i) (kv i)

theorem half_inb (b : Fin 2) : ∀ a, (![0, 256 * b.val] : Fin 2 → Nat) a + S128x256.size a ≤ S2048x512.size a := by
  intro a; have := b.isLt
  fin_cases a
  · show 0 + 128 ≤ 2048; omega
  · show 256 * b.val + 256 ≤ 512; omega

/-- A device's own rows of batch `b`. -/
abbrev ownR (b : Fin 2) : Rect S2048x512 := Rect.unit (s := S2048x512) ![0, 256 * b.val] S128x256.size (half_inb b)

theorem kStores (b : Fin 2) : (kbuf.access (ownR b)).Stores Finset.univ := by
  refine View.stores_vmem h_S128x256 ((Memref.isWhole_whole _).storeExact_slice rfl _ ?_) (fun _ => rfl)
  revert b; decide +kernel

theorem vStores (b : Fin 2) : (vbuf.access (ownR b)).Stores Finset.univ := by
  refine View.stores_vmem h_S128x256 ((Memref.isWhole_whole _).storeExact_slice rfl _ ?_) (fun _ => rfl)
  revert b; decide +kernel

/-- A device's own keys and values of batch `b`, stored. -/
def own (b : Fin 2) (kb : FVec F S128x256 .fp8e4m3) (vb : FVec F S128x256 .bf16) (k : KProg F) : KProg F :=
  .op (.load kbuf (ownR b).toLoadRect (View.loadsAt_vmem h_S128x256)) fun _ =>
  .op (.store kbuf (ownR b) kb Finset.univ (kStores b) (.inl rfl)) fun _ =>
  .op (.load vbuf (ownR b).toLoadRect (View.loadsAt_vmem h_S128x256)) fun _ =>
  .op (.store vbuf (ownR b) vb Finset.univ (vStores b) (.inl rfl)) fun _ => k

theorem batch_inb (b : Fin 2) : ∀ a, (![b.val, 0, 0] : Fin 3 → Nat) a + S1x128x512.size a ≤ S2x128x512.size a := by
  intro a; have := b.isLt
  fin_cases a
  · show b.val + 1 ≤ 2; omega
  · show 0 + 128 ≤ 128; omega
  · show 0 + 512 ≤ 512; omega

/-- Batch `b` of a `[2, 128, 512]` array. -/
abbrev batchR (b : Fin 2) : Rect S2x128x512 := Rect.unit (s := S2x128x512) ![b.val, 0, 0] S1x128x512.size (batch_inb b)

/-- A batch's result rows, stored. -/
def outp (a5 : Memref sig .tc .vmem S2x128x512 .f32) (b : Fin 2) (o : FVec F S1x128x512 .f32) (k : KProg F) : KProg F :=
  .op (.load a5 (batchR b).toLoadRect (View.loadsAt_vmem h_S1x128x512)) fun _ =>
  .op (.store a5 (batchR b) o Finset.univ (View.stores_vmem_bits_univ h_S1x128x512 rfl) (.inl rfl)) fun _ => k

/-- The order the copies into the slabs are issued and waited for in. -/
def colSlabs : List (Fin 16) := [3, 2, 1]
def fwdSlabs : Fin 4 → List (Fin 16)
  | 0 => [6, 5, 4] | 1 => [9, 8, 7] | 2 => [12, 11, 10] | 3 => [15, 14, 13]
def grpSlabs : Fin 4 → List (Fin 16)
  | 0 => [4, 5, 6] | 1 => [7, 8, 9] | 2 => [10, 11, 12] | 3 => [13, 14, 15]

/-- The queries, head by head of both batches. -/
def queries (d : Dev nD) (wq : Vec F S512x256 .bf16) (x0 x1 : Vec F S1x128x512 .bf16) (i : Fin 8) : FVec F S128x64 .bf16 :=
  if i.val < 4 then qHead d x0 wq ⟨i.val % 4, by omega⟩ else qHead d x1 wq ⟨i.val % 4, by omega⟩

/-- A column's landing, awaited and forwarded to the plane. -/
def relay (d : Dev nD) (s : Fin 4) (k : KProg F) : KProg F :=
  recv ⟨s.val, by omega⟩ (seqs (send d) (fwdSlabs s) k)

/-- One of the four last groups of keys: three landings awaited, then its tiles. -/
def later (q : Fin 8 → FVec F S128x64 .bf16) (g : Fin 4) (st : Fin 8 → St F) (k : (Fin 8 → St F) → KProg F) : KProg F :=
  seqs recv (grpSlabs g) (group tile384 (512 + 384 * g.val) (by omega) h_S384x64 q st k)

/-- Everything after the inputs are loaded and the own rows stored. -/
def comm (d : Dev nD) (k : KProg F) : KProg F :=
  seqs (send d) colSlabs <| seqs (send d) (fwdSlabs 0) <| seqs (relay d) [1, 2, 3] k

def attend (q : Fin 8 → FVec F S128x64 .bf16) (k : (Fin 8 → St F) → KProg F) : KProg F :=
  group tile128 0 (by omega) h_S128x64 q (fun _ => st0) fun s0 =>
  group tile384 128 (by omega) h_S384x64 q s0 fun s1 =>
  later q 0 s1 fun s2 => later q 1 s2 fun s3 => later q 2 s3 fun s4 => later q 3 s4 k

def finish : KProg F :=
  seqs sent colSlabs <| seqs sent (fwdSlabs 0) <| seqs sent (fwdSlabs 1) <| seqs sent (fwdSlabs 2) <| seqs sent (fwdSlabs 3) (.ret ⟨⟩)

/-- The whole rectangle of a weight matrix. -/
abbrev wR : Rect S512x256 := Rect.unit (s := S512x256) ![0, 0] S512x256.size inb_S512x256_S512x256_0_0
abbrev woR : Rect S256x512 := Rect.unit (s := S256x512) ![0, 0] S256x512.size inb_S256x512_S256x512_0_0

/-- The body. -/
def body (a0 : Memref sig .tc .vmem S2x128x512 .bf16) (a1 a2 a3 : Memref sig .tc .vmem S512x256 .bf16)
    (a4 : Memref sig .tc .vmem S256x512 .bf16) (a5 : Memref sig .tc .vmem S2x128x512 .f32) : KProg F :=
  .op .deviceId fun d =>
  seqs (sig1 d) [0, 1, 2, 3, 4, 5] <|
  .op (.semWait barSem ((6 : ℕ) : Int)) fun _ =>
  .op (.load a1 wR.toLoadRect (View.loadsAt_vmem h_S512x256)) fun wq =>
  .op (.load a2 wR.toLoadRect (View.loadsAt_vmem h_S512x256)) fun wk =>
  .op (.load a3 wR.toLoadRect (View.loadsAt_vmem h_S512x256)) fun wv =>
  .op (.load a4 woR.toLoadRect (View.loadsAt_vmem h_S256x512)) fun wo =>
  .op (.load a0 (batchR 0).toLoadRect (View.loadsAt_vmem h_S1x128x512)) fun x0 =>
  .op (.load a0 (batchR 1).toLoadRect (View.loadsAt_vmem h_S1x128x512)) fun x1 =>
  own 0 (keyBlk d x0 wk) (valBlk x0 wv) <|
  own 1 (keyBlk d x1 wk) (valBlk x1 wv) <|
  comm d <|
  attend (queries d wq x0 x1) fun st =>
  outp a5 0 (outBlk wo (st 0) (st 1) (st 2) (st 3)) <|
  outp a5 1 (outBlk wo (st 4) (st 5) (st 6) (st 7)) finish

set_option maxRecDepth 100000 in
/-- The printed body is this program: by definitional unfolding. -/
theorem body_eq (a0 : Memref sig .tc .vmem S2x128x512 .bf16) (h0 : a0.IsWhole) (a1 : Memref sig .tc .vmem S512x256 .bf16) (h1 : a1.IsWhole)
    (a2 : Memref sig .tc .vmem S512x256 .bf16) (h2 : a2.IsWhole) (a3 : Memref sig .tc .vmem S512x256 .bf16) (h3 : a3.IsWhole)
    (a4 : Memref sig .tc .vmem S256x512 .bf16) (h4 : a4.IsWhole) (a5 : Memref sig .tc .vmem S2x128x512 .f32) (h5 : a5.IsWhole) :
    cc0_body (F := F) a0 h0 a1 h1 a2 h2 a3 h3 a4 h4 a5 h5 (Memref.whole cc0_scratch0) (Memref.isWhole_whole _) (Memref.whole cc0_scratch1)
      (Memref.isWhole_whole _) cc0_scratch2 cc0_scratch3 cc0_scratch4 cc0_scratch5 = body a0 a1 a2 a3 a4 a5 := by
  chain_rfl

end Cert.KernelIdeal.Core
end
-- ==== Proof.Core.Mesh.lean ====
/- The mesh seen from one device, the rows of the gathered buffers, and what they hold after the exchange. -/
module

public import proofs.«01_k».proof.Proof.Core.Prog
public import Idealize.ShloMosaic.Lib.Pipeline.Launch
public import Idealize.ShloMosaic.Lib.Pipeline.Kit
public import Idealize.ShloMosaic.Lib.Tactic

@[expose] public section

noncomputable section

namespace Cert.KernelIdeal.Core

open Idealize.ShloMosaic Idealize.SL.Sem Idealize.ShloMosaic.TcCoe
open Cert.KernelIdeal.Gen

variable {F : FTy → Type} [FloatOps F] [Named F]

/-! ## Who talks to whom -/

/-- The device whose keys and values end in slab `s` of device `c`. -/
def owner (s : Fin 16) (c : Dev nD) : Dev nD :=
  if s.val < 4 then ⟨((c.val / 4 + s.val) % 4) * 4 + c.val % 4, by show _ < 16; omega⟩
  else ⟨((c.val / 4 + (s.val - 4) / 3) % 4) * 4 + (c.val % 4 + 1 + (s.val - 4) % 3) % 4, by show _ < 16; omega⟩

/-- Which of the six signals a device receives covers slab `s`: the one from the device it copies slab `s` to. -/
def grant (s : Fin 16) : Fin 6 :=
  if s.val < 4 then ⟨(s.val - 1) % 6, by omega⟩ else ⟨3 + (s.val - 4) % 3, by omega⟩

/-- The read share a copy into slab `s` takes of its source slab. -/
def tokIx (s : Fin 16) : ℕ := if s.val < 4 then s.val + 2 else (s.val - 4) % 3

/-- How many copies read slab `s`. -/
def readers (s : Fin 16) : ℕ := if s.val = 0 then 6 else if s.val < 4 then 3 else 0

theorem owner_zero (c : Dev nD) : owner 0 c = c := by revert c; decide +kernel
/-- A copy delivers what its source slab holds. -/
theorem owner_send : ∀ (s : Fin 16) (c : Dev nD), s ≠ 0 → owner s (peer (hop s) c) = owner (src s) c := by decide +kernel
theorem peer_hop_grant : ∀ (s : Fin 16) (c : Dev nD), s ≠ 0 → peer (hop s) (peer (grant s) c) = c := by decide +kernel
theorem peer_grant_hop : ∀ (s : Fin 16) (c : Dev nD), s ≠ 0 → peer (grant s) (peer (hop s) c) = c := by decide +kernel
/-- Every device's block lands in exactly one slab. -/
theorem owner_bijective : ∀ c : Dev nD, Function.Bijective (fun s : Fin 16 => owner s c) := by
  intro c
  have h : ∀ (c : Dev nD) (a b : Fin 16), owner a c = owner b c → a = b := by decide +kernel
  exact (Fintype.bijective_iff_injective_and_card _).mpr ⟨fun a b hab => h c a b hab, rfl⟩

/-- The signal going the other way. -/
def back (b : Fin 6) : Fin 6 := if b.val < 3 then ⟨2 - b.val, by omega⟩ else ⟨(8 - b.val) % 6, by omega⟩
theorem peer_back : ∀ (b : Fin 6) (c : Dev nD), peer (back b) (peer b c) = c := by decide +kernel
theorem back_back : ∀ b : Fin 6, back (back b) = b := by decide
/-- Signal `b` as a renaming of the devices. -/
def peerEquiv (b : Fin 6) : Dev nD ≃ Dev nD :=
  ⟨peer b, peer (back b), peer_back b, fun c => by have := peer_back (back b) c; rwa [back_back] at this⟩

/-! ## Rows -/

/-- The indices of the rows from `r`, `n` of them. -/
def rset (r n : ℕ) : Finset S2048x512.Idx := Finset.univ.filter fun i => r ≤ (i 0).val ∧ (i 0).val < r + n

theorem mem_rset {r n : ℕ} {i : S2048x512.Idx} : i ∈ rset r n ↔ r ≤ (i 0).val ∧ (i 0).val < r + n := by
  unfold rset; rw [Finset.mem_filter]; exact ⟨fun h => h.2, fun h => ⟨Finset.mem_univ _, h⟩⟩

theorem rset_add (r n n' : ℕ) : rset r (n + n') = rset r n ∪ rset (r + n) n' := by
  ext i; rw [Finset.mem_union, mem_rset, mem_rset, mem_rset]; omega

theorem rset_disjoint (r n n' : ℕ) : Disjoint (rset r n) (rset (r + n) n') :=
  Finset.disjoint_left.mpr fun i h h' => by rw [mem_rset] at h h'; omega

theorem rset_all : rset 0 2048 = Finset.univ := by
  ext i; rw [mem_rset]; exact ⟨fun _ => Finset.mem_univ _, fun _ => ⟨Nat.zero_le _, by have : (i 0).val < 2048 := (i 0).isLt; omega⟩⟩

theorem slabR_set (s : Fin 16) : (slabR s).set = rset (128 * s.val) 128 := by
  ext i
  rw [mem_rset, Rect.mem_set_unit]
  constructor
  · intro h; exact h 0
  · intro h a
    fin_cases a
    · exact h
    · exact ⟨Nat.zero_le _, by have : (i 1).val < 512 := (i 1).isLt; show (i 1).val < 0 + 512; omega⟩

theorem tileR_set {n r : ℕ} (h : r + n ≤ 2048) (j : ℕ) : (tileR n r h j).set ⊆ rset r n := by
  intro i hi; rw [mem_rset]; exact (Rect.mem_set_unit.mp hi) 0

theorem ownR_set (b : Fin 2) : (ownR b).set ⊆ rset 0 128 := by
  intro i hi; rw [mem_rset]; exact (Rect.mem_set_unit.mp hi) 0

section Geom
variable {e : EltTy} (M : Memref sig .tc .vmem S2048x512 e)

theorem slab_set (s : Fin 16) : (M.slice (slabR s) (fun _ => rfl)).view.set = M.view.setOn (rset (128 * s.val) 128) := by
  show (M.view.slice (slabR s)).set = _
  rw [View.set_slice, slabR_set]; rfl

theorem tile_sub {n r : ℕ} (h : r + n ≤ 2048) (j : ℕ) : M.view.setOn (tileR n r h j).set ⊆ M.view.setOn (rset r n) :=
  Finset.map_subset_map.mpr (tileR_set h j)

theorem own_sub (b : Fin 2) : M.view.setOn (ownR b).set ⊆ M.view.setOn (rset 0 128) :=
  Finset.map_subset_map.mpr (ownR_set b)

theorem own_access_sub (b : Fin 2) : (M.access (ownR b)).setOn Finset.univ ⊆ M.view.setOn (rset 0 128) := by
  rw [View.setOn_univ]
  show (M.view.slice (ownR b)).set ⊆ _
  rw [View.set_slice]; exact own_sub M b

end Geom

/-- What a write through a view leaves on the view's elements, when the written values are what `g` reads there. -/
theorem write_eq_of_read {κ : Kind} {sp : Space} {s : Shape} {e : EltTy} (v : View sig κ sp s e) (f g : v.ty.Contents (Elt F)) (w : s.Idx → Elt F e)
    (h : v.read (Elt F) g = w) : ∀ i ∈ v.set, v.write (Elt F) f w Finset.univ i = g i := by
  intro i hi
  obtain ⟨x, -, rfl⟩ := Finset.mem_map.mp hi
  rw [View.write_emb_of_mem _ _ (Finset.mem_univ _), ← h, View.read_apply, cast_cast, cast_eq]

/-! ## What the buffers hold -/

/-- The arrays every device starts from. -/
structure Ins (F : FTy → Type) where
  x : Dev nD → S2x128x512.Idx → F .bf16
  wq : Dev nD → S512x256.Idx → F .bf16
  wk : Dev nD → S512x256.Idx → F .bf16
  wv : Dev nD → S512x256.Idx → F .bf16
  wo : Dev nD → S256x512.Idx → F .bf16

/-- Batch `b` of a `[2, 128, 512]` array, kept as `[1, 128, 512]`. -/
def batchOf (x : S2x128x512.Idx → F .bf16) (b : Fin 2) : Vec F S1x128x512 .bf16 := fun i => x ((batchR b).emb i)

def rowSlab (i : S2048x512.Idx) : Fin 16 := ⟨(i 0).val / 128, by have : (i 0).val < 2048 := (i 0).isLt; omega⟩
def rowIn (i : S2048x512.Idx) : Fin 128 := ⟨(i 0).val % 128, by omega⟩
def colHalf (j : Fin 512) : Fin 2 := ⟨j.val / 256, by omega⟩
def colIn (j : Fin 512) : Fin 256 := ⟨j.val % 256, by omega⟩
def ix2 {a b : ℕ} (i : Fin a) (j : Fin b) : (⟨2, ![a, b]⟩ : Shape).Idx := fun k => match k with
  | 0 => i
  | 1 => j

/-- A device's own rows: batch 0's columns, then batch 1's. -/
def pair {φ : FTy} (f : Fin 2 → S128x256.Idx → F φ) : S128x512.Idx → F φ := fun i => f (colHalf (i 1)) (ix2 (i 0) (colIn (i 1)))

/-- The sixteen slabs of device `c`: slab `s` is the block of `owner s c`. -/
def gathered {φ : FTy} (f : Dev nD → S128x512.Idx → F φ) (c : Dev nD) : S2048x512.Idx → F φ :=
  fun i => f (owner (rowSlab i) c) (ix2 (rowIn i) (i 1))

variable (I : Ins F)

def kHalf (d : Dev nD) (b : Fin 2) : S128x256.Idx → F .fp8e4m3 := keyBlk d (batchOf (I.x d) b) (I.wk d)
def vHalf (d : Dev nD) (b : Fin 2) : S128x256.Idx → F .bf16 := valBlk (batchOf (I.x d) b) (I.wv d)
def kAll (c : Dev nD) : S2048x512.Idx → F .fp8e4m3 := gathered (fun d => pair (kHalf I d)) c
def vAll (c : Dev nD) : S2048x512.Idx → F .bf16 := gathered (fun d => pair (vHalf I d)) c

theorem gathered_slab {φ : FTy} (f : Dev nD → S128x512.Idx → F φ) (c : Dev nD) (s : Fin 16) (x : S128x512.Idx) :
    gathered f c ((slabR s).emb x) = f (owner s c) x := by
  have h0 : (x 0).val < 128 := (x 0).isLt
  have e0 : ((slabR s).emb x 0).val = 128 * s.val + (x 0).val := by show 128 * s.val + 1 * (x 0).val = _; omega
  have e1 : ((slabR s).emb x 1).val = (x 1).val := by show 0 + 1 * (x 1).val = _; omega
  have hs : rowSlab ((slabR s).emb x) = s := Fin.ext (by show ((slabR s).emb x 0).val / 128 = _; rw [e0]; omega)
  unfold gathered
  rw [hs]
  congr 1
  funext a
  fin_cases a
  · exact Fin.ext (by show ((slabR s).emb x 0).val % 128 = _; rw [e0]; show _ = (x 0).val; omega)
  · exact Fin.ext e1

theorem gathered_own {φ : FTy} (f : Dev nD → Fin 2 → S128x256.Idx → F φ) (c : Dev nD) (b : Fin 2) (x : S128x256.Idx) :
    gathered (fun d => pair (f d)) c ((ownR b).emb x) = f c b x := by
  have h0 : (x 0).val < 128 := (x 0).isLt
  have h1 : (x 1).val < 256 := (x 1).isLt
  have e0 : ((ownR b).emb x 0).val = (x 0).val := by show 0 + 1 * (x 0).val = _; omega
  have e1 : ((ownR b).emb x 1).val = 256 * b.val + (x 1).val := by show 256 * b.val + 1 * (x 1).val = _; omega
  have hs : rowSlab ((ownR b).emb x) = 0 := Fin.ext (by show ((ownR b).emb x 0).val / 128 = 0; rw [e0]; omega)
  unfold gathered
  rw [hs, owner_zero]
  have hb : colHalf ((ownR b).emb x 1) = b := Fin.ext (by show ((ownR b).emb x 1).val / 256 = _; rw [e1]; omega)
  show f c (colHalf ((ownR b).emb x 1)) _ = _
  rw [hb]
  congr 1
  funext a
  fin_cases a
  · exact Fin.ext (by show ((ownR b).emb x 0).val % 128 = (x 0).val; rw [e0]; omega)
  · exact Fin.ext (by show ((ownR b).emb x 1).val % 256 = (x 1).val; rw [e1]; omega)

theorem kAll_slab (c : Dev nD) (s : Fin 16) : (kSlab s).view.read (Elt F) (kAll I c) = pair (kHalf I (owner s c)) :=
  funext fun x => gathered_slab (fun d => pair (kHalf I d)) c s x
theorem vAll_slab (c : Dev nD) (s : Fin 16) : (vSlab s).view.read (Elt F) (vAll I c) = pair (vHalf I (owner s c)) :=
  funext fun x => gathered_slab (fun d => pair (vHalf I d)) c s x

/-- Slab 0 after the two stores of a device's own halves. -/
theorem own_stored {e : EltTy} (v : View sig .tc .vmem S2048x512 e) (f g : v.ty.Contents (Elt F)) (w : Fin 2 → S128x256.Idx → Elt F e)
    (h : ∀ b : Fin 2, (v.slice (ownR b)).read (Elt F) g = w b) :
    ∀ i ∈ v.setOn (rset 0 128), (v.slice (ownR 1)).write (Elt F) ((v.slice (ownR 0)).write (Elt F) f (w 0) Finset.univ) (w 1) Finset.univ i = g i := by
  intro i hi
  obtain ⟨x, hx, rfl⟩ := Finset.mem_map.mp hi
  rw [mem_rset] at hx
  have h1 : (x 1).val < 512 := (x 1).isLt
  have hm : ∀ b : Fin 2, (256 * b.val ≤ (x 1).val ∧ (x 1).val < 256 * b.val + 256) → x ∈ (ownR b).set := by
    intro b hb; rw [Rect.mem_set_unit]; intro a
    fin_cases a
    · exact ⟨Nat.zero_le _, hx.2⟩
    · exact hb
  by_cases hc : 256 ≤ (x 1).val
  · exact write_eq_of_read (v.slice (ownR 1)) _ g (w 1) (h 1) _ (by
      rw [View.set_slice]; exact Finset.mem_map_of_mem _ (hm 1 ⟨hc, h1⟩))
  · rw [View.write_of_not_mem]
    · exact write_eq_of_read (v.slice (ownR 0)) _ g (w 0) (h 0) _ (by
        rw [View.set_slice]; exact Finset.mem_map_of_mem _ (hm 0 ⟨Nat.zero_le _, by show _ < 0 + 256; omega⟩))
    · rw [View.setOn_univ, View.set_slice, Finset.mem_map']
      intro hn
      have := (Rect.mem_set_unit.mp hn) 1
      have h2 : 256 * 1 ≤ (x 1).val := this.1
      omega

/-- The sixteen slabs' tiles, as the loads read them. -/
def kTile {n : ℕ} (c : Dev nD) (r : ℕ) (h : r + n ≤ 2048) (j : ℕ) : FVec F ⟨2, ![n, 64]⟩ .fp8e4m3 := fun x => kAll I c ((tileR n r h j).emb x)
def vTile {n : ℕ} (c : Dev nD) (r : ℕ) (h : r + n ≤ 2048) (j : ℕ) : FVec F ⟨2, ![n, 64]⟩ .bf16 := fun x => vAll I c ((tileR n r h j).emb x)

theorem kTile_read {n : ℕ} (c : Dev nD) (r : ℕ) (h : r + n ≤ 2048) (j : ℕ) : kbuf.view.readAt (Elt F) (tileR n r h j).toLoadRect (kAll I c) = kTile I c r h j := rfl
theorem vTile_read {n : ℕ} (c : Dev nD) (r : ℕ) (h : r + n ≤ 2048) (j : ℕ) : vbuf.view.readAt (Elt F) (tileR n r h j).toLoadRect (vAll I c) = vTile I c r h j := rfl

/-- A group of keys folded into the eight heads' states. -/
def fold {n : ℕ} (T : Tile n) (c : Dev nD) (r : ℕ) (h : r + n ≤ 2048) (q : Fin 8 → FVec F S128x64 .bf16) (st : Fin 8 → St F) : Fin 8 → St F :=
  fun i => step T (q i) (st i) (kTile I c r h i.val, vTile I c r h i.val)

/-- The queries of device `c`. -/
def qAll (c : Dev nD) : Fin 8 → FVec F S128x64 .bf16 := queries c (I.wq c) (batchOf (I.x c) 0) (batchOf (I.x c) 1)

/-- The heads' final states. -/
def states (c : Dev nD) : Fin 8 → St F :=
  let q := qAll I c
  fold I tile384 c 1664 (by omega) q <| fold I tile384 c 1280 (by omega) q <| fold I tile384 c 896 (by omega) q <|
  fold I tile384 c 512 (by omega) q <| fold I tile384 c 128 (by omega) q <| fold I tile128 c 0 (by omega) q fun _ => st0

/-- What device `c` stores in its result's batch `b`. -/
def outAt (c : Dev nD) (b : Fin 2) : FVec F S1x128x512 .f32 :=
  match b with
  | 0 => outBlk (I.wo c) (states I c 0) (states I c 1) (states I c 2) (states I c 3)
  | 1 => outBlk (I.wo c) (states I c 4) (states I c 5) (states I c 6) (states I c 7)

/-- The result block of device `c`. -/
def result (c : Dev nD) : S2x128x512.Idx → F .f32 := fun i => outAt I c (i 0) (fun a => match a with
  | 0 => (0 : Fin 1)
  | 1 => i 1
  | 2 => i 2)

end Cert.KernelIdeal.Core
end
-- ==== Proof.Core.Sched.lean ====
/- The protocol: one round per semaphore, who pays which unit of it, and what each payment hands over. -/
module

public import proofs.«01_k».proof.Proof.Core.Mesh
public import proofs.«01_k».proof.Proof.Gen.KernelIdeal.Launch
public import Idealize.ShloMosaic.Lib.Transfers

@[expose] public section

noncomputable section

namespace Cert.KernelIdeal.Core

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.Transfers (shareTokN shareDrop pointsTo_toks_range)

variable {F : FTy → Type} [FloatOps F] [Named F]

/-! ## The ghost state: the launch's own, and one duty name per signal of a barrier -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Rows of a device's gathered buffers -/

/-- `n` rows from `r` of device `c`'s buffer `M`. -/
def rows {e : EltTy} (M : Memref sig .tc .vmem S2048x512 e) (r n : ℕ) (c : Dev nD) (q : PosShare TreeShare)
    (f : Buf (Elt F) (M.view.loc (c : Thread nD τ))) : sProp 𝕄 :=
  M.view.loc (c : Thread nD τ) ↦[M.view.setOn (rset r n)]{q} f

omit [FloatOps F] [Named F] in
instance rows_storable {e : EltTy} (M : Memref sig .tc .vmem S2048x512 e) (r n : ℕ) (c : Dev nD) (q : PosShare TreeShare) (f) :
    BI.Storable (upEmb : UEmb _ 𝕄) (rows (F := F) M r n c q f) := by unfold rows; infer_instance

omit [FloatOps F] [Named F] in
theorem rows_add {e : EltTy} (M : Memref sig .tc .vmem S2048x512 e) (r n n' : ℕ) (c : Dev nD) (q : PosShare TreeShare) (f) :
    rows (F := F) M r (n + n') c q f = iprop(rows M r n c q f ∗ rows M (r + n) n' c q f) := by
  have h : Disjoint (M.view.setOn (rset r n)) (M.view.setOn (rset (r + n) n')) := (Finset.disjoint_map _).mpr (rset_disjoint r n n')
  unfold rows
  rw [rset_add, show M.view.setOn (rset r n ∪ rset (r + n) n') = M.view.setOn (rset r n) ∪ M.view.setOn (rset (r + n) n') from Finset.map_union _ _]
  exact BI.Entails.antisymm (pointsTo_union h).1 (pointsTo_union h).2

variable (I : Ins F)

/-- Rows holding what the exchange leaves there: keys for `t = 0`, values for `t = 1`. -/
def held (t : Fin 2) (r n : ℕ) (c : Dev nD) (q : PosShare TreeShare) : sProp 𝕄 := match t with
  | 0 => rows kbuf r n c q (kAll I c)
  | 1 => rows vbuf r n c q (vAll I c)

/-- Rows holding anything. -/
def loose (t : Fin 2) (r n : ℕ) (c : Dev nD) : sProp 𝕄 := match t with
  | 0 => iprop(∃ f, rows kbuf r n c fullShare f)
  | 1 => iprop(∃ f, rows vbuf r n c fullShare f)

instance held_storable (t : Fin 2) (r n : ℕ) (c : Dev nD) (q : PosShare TreeShare) : BI.Storable (upEmb : UEmb _ 𝕄) (held I t r n c q) := by
  unfold held; split <;> infer_instance
omit [FloatOps F] [Named F] in
instance loose_storable (t : Fin 2) (r n : ℕ) (c : Dev nD) : BI.Storable (upEmb : UEmb _ 𝕄) (loose (F := F) t r n c) := by
  unfold loose; split <;> infer_instance

theorem held_add (t : Fin 2) (r n n' : ℕ) (c : Dev nD) (q : PosShare TreeShare) :
    held I t r (n + n') c q = iprop(held I t r n c q ∗ held I t (r + n) n' c q) := by
  unfold held; split <;> exact rows_add _ _ _ _ _ _ _

theorem held_loose (t : Fin 2) (r n : ℕ) (c : Dev nD) : held I t r n c fullShare ⊢ loose t r n c := by
  unfold held loose
  split
  · iintro H; iexists _; iexact H
  · iintro H; iexists _; iexact H

/-! ## Cells -/

abbrev barCell (c : Dev nD) : GSem nD τ sig := ((c : Thread nD τ), .reg barSem)
abbrev sendCell (t : Fin 2) (s : Fin 16) (c : Dev nD) : GSem nD τ sig := ((c : Thread nD τ), .dma (sendSem t s))
abbrev recvCell (t : Fin 2) (s : Fin 16) (c : Dev nD) : GSem nD τ sig := ((c : Thread nD τ), .dma (recvSem t s))

/-- The number of units one slab's copy credits. -/
def unitsOf (t : Fin 2) : ℕ := match t with
  | 0 => (kSlab 0).view.dmaCredit
  | 1 => (vSlab 0).view.dmaCredit

theorem unitsOf_pos (t : Fin 2) : 0 < unitsOf t := by
  unfold unitsOf; split <;> exact View.dmaCredit_pos _ (by decide)

/-- Which copy a semaphore belongs to: whether it counts landings, of keys or values, into which slab. -/
def decode (q : DmaSem sig) : Bool × Fin 2 × Fin 16 :=
  let v := q.val
  if v < 12 then (false, ⟨(v - 6) / 3 % 2, by omega⟩, ⟨3 - (v - 6) % 3, by omega⟩)
  else if v < 18 then (true, ⟨(v - 12) / 3 % 2, by omega⟩, ⟨1 + (v - 12) % 3, by omega⟩)
  else if v < 42 then (false, ⟨(v - 18) / 12 % 2, by omega⟩, ⟨4 + ((v - 18) % 12 / 3) * 3 + (2 - (v - 18) % 3), by omega⟩)
  else (true, ⟨(v - 42) / 12 % 2, by omega⟩, ⟨4 + (v - 42) % 12, by omega⟩)

theorem decode_send : ∀ (t : Fin 2) (s : Fin 16), s ≠ 0 → decode (sendSem t s) = (false, t, s) := by decide +kernel
theorem decode_recv : ∀ (t : Fin 2) (s : Fin 16), s ≠ 0 → decode (recvSem t s) = (true, t, s) := by decide +kernel
theorem sendSem_ge : ∀ (t : Fin 2) (s : Fin 16), s ≠ 0 → 6 ≤ (sendSem t s).val := by decide +kernel
theorem recvSem_ge : ∀ (t : Fin 2) (s : Fin 16), s ≠ 0 → 6 ≤ (recvSem t s).val := by decide +kernel

/-- The slabs: those that receive a copy. -/
abbrev slabs : Finset (Fin 16) := Finset.univ.erase 0
/-- Those whose landing rows a barrier signal with name `b` hands over. -/
abbrev slabsOf (b : Fin 6) : Finset (Fin 16) := slabs.filter fun s => grant s = b

/-! ## The schedule -/

/-- What signal `b` hands device `c`: the rows it will copy into. -/
def barPay (c : Dev nD) (b : Fin 6) : sProp 𝕄 :=
  bigSep (slabsOf b) fun s => iprop(loose 0 (128 * s.val) 128 (peer (hop s) c) ∗ loose 1 (128 * s.val) 128 (peer (hop s) c))
def recvPay (t : Fin 2) (s : Fin 16) (c : Dev nD) : sProp 𝕄 := held I t (128 * s.val) 128 c fullShare
def sendPay (t : Fin 2) (s : Fin 16) (c : Dev nD) : sProp 𝕄 := held I t (128 * (src s).val) 128 c (shareTokN fullShare (tokIx s))

def payOf (g : GSem nD τ sig) (b : Fin 6) : sProp 𝕄 := match g.2 with
  | .reg _ => barPay g.1.1 b
  | .dma q => match decode q with
    | (true, t, s) => recvPay I t s g.1.1
    | (false, t, s) => sendPay I t s g.1.1

def dutiesOf (sm : SemLoc sig) : Finset (Fin 6) := match sm with
  | .reg q => if q = barSem then Finset.univ else ∅
  | .dma q => if 6 ≤ q.val then {0} else ∅

def amountOf (sm : SemLoc sig) : ℕ := match sm with
  | .reg _ => 1
  | .dma q => unitsOf (decode q).2.1

def Rd : Rounds.Schedule (GSem nD τ sig) (Fin 6) 𝕄 where
  duties g r := if r = 0 ∧ g.1.2 = .tc then dutiesOf g.2 else ∅
  unitless _ := False
  amount g _ _ := amountOf g.2
  payload g _ b := payOf I g b
  amount_pos g _ _ _ := by
    unfold amountOf; split
    · exact Nat.one_pos
    · exact unitsOf_pos _

instance payOf_storable (g : GSem nD τ sig) (b : Fin 6) : BI.Storable (upEmb : UEmb _ 𝕄) (payOf I g b) := by
  unfold payOf barPay recvPay sendPay
  split
  · infer_instance
  · split <;> infer_instance

instance Rd_payload_storable (g : GSem nD τ sig) (r : ℕ) (b : Fin 6) : BI.Storable (upEmb : UEmb _ 𝕄) ((Rd I).payload g r b) :=
  payOf_storable I g b

section Tables
variable (c : Dev nD) (t : Fin 2) (s : Fin 16) (hs : s ≠ 0)

theorem duties_bar : (Rd I).duties (barCell c) 0 = Finset.univ := by dsimp only [Rd]; rw [if_pos ⟨rfl, rfl⟩]; unfold dutiesOf; exact if_pos rfl
include hs in
theorem duties_send : (Rd I).duties (sendCell t s c) 0 = {0} := by dsimp only [Rd]; rw [if_pos ⟨rfl, rfl⟩]; exact if_pos (sendSem_ge t s hs)
include hs in
theorem duties_recv : (Rd I).duties (recvCell t s c) 0 = {0} := by dsimp only [Rd]; rw [if_pos ⟨rfl, rfl⟩]; exact if_pos (recvSem_ge t s hs)
theorem duties_later (g : GSem nD τ sig) : ∀ r, 1 ≤ r → (Rd I).duties g r = ∅ :=
  fun r hr => by dsimp only [Rd]; rw [if_neg fun h => by omega]

theorem amount_bar (b : Fin 6) : (Rd I).amount (barCell c) 0 b = 1 := rfl
include hs in
theorem amount_send (b : Fin 6) : (Rd I).amount (sendCell t s c) 0 b = unitsOf t := by
  show unitsOf (decode (sendSem t s)).2.1 = _; rw [decode_send t s hs]
include hs in
theorem amount_recv (b : Fin 6) : (Rd I).amount (recvCell t s c) 0 b = unitsOf t := by
  show unitsOf (decode (recvSem t s)).2.1 = _; rw [decode_recv t s hs]

theorem expect_bar : (Rd I).expect (barCell c) 0 = 6 := by
  unfold Schedule.expect Schedule.amountOf
  rw [duties_bar, Finset.sum_congr rfl fun d _ => amount_bar I c d, Finset.sum_const, Finset.card_univ, Fintype.card_fin, smul_eq_mul]
include hs in
theorem expect_send : (Rd I).expect (sendCell t s c) 0 = unitsOf t := by
  unfold Schedule.expect Schedule.amountOf; rw [duties_send I c t s hs, Finset.sum_singleton, amount_send I c t s hs]
include hs in
theorem expect_recv : (Rd I).expect (recvCell t s c) 0 = unitsOf t := by
  unfold Schedule.expect Schedule.amountOf; rw [duties_recv I c t s hs, Finset.sum_singleton, amount_recv I c t s hs]

theorem payload_bar (b : Fin 6) : (Rd I).payload (barCell c) 0 b = barPay c b := rfl
include hs in
theorem payload_send (b : Fin 6) : (Rd I).payload (sendCell t s c) 0 b = sendPay I t s c := by
  show (match decode (sendSem t s) with | (true, t, s) => recvPay I t s c | (false, t, s) => sendPay I t s c) = _
  rw [decode_send t s hs]
include hs in
theorem payload_recv (b : Fin 6) : (Rd I).payload (recvCell t s c) 0 b = recvPay I t s c := by
  show (match decode (recvSem t s) with | (true, t, s) => recvPay I t s c | (false, t, s) => sendPay I t s c) = _
  rw [decode_recv t s hs]

theorem grants_all : (Finset.univ : Finset (Fin 6)) = slabs.image grant := by decide +kernel

/-- The whole barrier round hands over the landing rows of every copy device `c` makes. -/
theorem rest_bar : bigSep ((Rd I).duties (barCell c) 0 \ ∅) (fun b => (Rd I).payload (barCell c) 0 b)
    = bigSep slabs fun s => iprop(loose 0 (128 * s.val) 128 (peer (hop s) c) ∗ loose 1 (128 * s.val) 128 (peer (hop s) c)) := by
  rw [Finset.sdiff_empty, duties_bar, bigSep_congr (fun b _ => payload_bar I c b), grants_all]
  unfold barPay slabsOf
  exact (BI.bigSep_fiberwise slabs grant _).symm
include hs in
theorem rest_send : bigSep ((Rd I).duties (sendCell t s c) 0 \ ∅) (fun b => (Rd I).payload (sendCell t s c) 0 b) = sendPay I t s c := by
  rw [Finset.sdiff_empty, duties_send I c t s hs, bigSep_singleton, payload_send I c t s hs]
include hs in
theorem rest_recv : bigSep ((Rd I).duties (recvCell t s c) 0 \ ∅) (fun b => (Rd I).payload (recvCell t s c) 0 b) = recvPay I t s c := by
  rw [Finset.sdiff_empty, duties_recv I c t s hs, bigSep_singleton, payload_recv I c t s hs]

end Tables

/-! ## What a device owes, and the levels -/

/-- What the copies into the slabs of a list still owe. -/
def owedS (c : Dev nD) : List (Fin 16) → CellTallies nD τ sig Unit
  | [] => 0
  | s :: l => owedS c l + tallyAt (recvCell 1 s (peer (hop s) c)) () (unitsOf 1) + tallyAt (recvCell 0 s (peer (hop s) c)) () (unitsOf 0)

/-- What the signals of a list still owe, on top of all the copies. -/
def owedB (c : Dev nD) (O : CellTallies nD τ sig Unit) : List (Fin 6) → CellTallies nD τ sig Unit
  | [] => O
  | b :: l => owedB c O l + tallyAt (barCell (peer b c)) () 1

/-- The copies in the order they are issued. -/
def order : List (Fin 16) := colSlabs ++ (fwdSlabs 0 ++ (fwdSlabs 1 ++ (fwdSlabs 2 ++ (fwdSlabs 3 ++ []))))
def sigs : List (Fin 6) := [0, 1, 2, 3, 4, 5]

def O₀ (c : Dev nD) : CellTallies nD τ sig Unit := owedB c (owedS c order) sigs

def L (g : GSem nD τ sig) : Finset Unit := if g.1.2 = .tc then {()} else ∅
/-- Barriers below column landings below plane landings; everything else below those. -/
def lvS (sm : SemLoc sig) : ℕ := match sm with
  | .reg _ => 1
  | .dma q => if 12 ≤ q.val ∧ q.val < 18 then 2 else if 42 ≤ q.val then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- A tally whose cells are all TensorCore cells of level above `b`. -/
def Above (b : ℕ) (O : CellTallies nD τ sig Unit) : Prop := ∀ (g : GSem nD τ sig) (u : Unit), 0 < O g u → g.1.2 = .tc ∧ b < lv g u

theorem Above.zero (b : ℕ) : Above b 0 := fun g u h => absurd h (Nat.lt_irrefl 0)
theorem Above.add {b : ℕ} {O O' : CellTallies nD τ sig Unit} (h : Above b O) (h' : Above b O') : Above b (O + O') := fun g u hg => by
  rw [Pi.add_apply, Finsupp.add_apply] at hg
  by_cases h1 : 0 < O g u
  · exact h g u h1
  · exact h' g u (by omega)
theorem Above.tally {b : ℕ} (c : Dev nD) (sm : SemLoc sig) (k : ℕ) (h : b < lvS sm) : Above b (tallyAt ((c : Thread nD τ), sm) () k) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)
theorem Above.mono {b b' : ℕ} {O : CellTallies nD τ sig Unit} (h : Above b' O) (hb : b ≤ b') : Above b O :=
  fun g u hg => ⟨(h g u hg).1, lt_of_le_of_lt hb (h g u hg).2⟩

theorem owedS_above (c : Dev nD) (b : ℕ) : ∀ l : List (Fin 16), (∀ s ∈ l, ∀ t : Fin 2, b < lvS (.dma (recvSem t s))) → Above b (owedS c l)
  | [], _ => Above.zero b
  | s :: l, h => ((owedS_above c b l fun s' hs' => h s' (List.mem_cons_of_mem _ hs')).add
      (Above.tally _ _ _ (h s List.mem_cons_self 1))).add (Above.tally _ _ _ (h s List.mem_cons_self 0))

theorem owedB_above (c : Dev nD) (b : ℕ) (hb : b < 1) (O : CellTallies nD τ sig Unit) (hO : Above b O) : ∀ l : List (Fin 6), Above b (owedB c O l)
  | [] => hO
  | _ :: l => (owedB_above c b hb O hO l).add (Above.tally _ _ _ hb)

/-- A wait below everything still owed. -/
theorem mayWait (c : Dev nD) (sm : SemLoc sig) (O : CellTallies nD τ sig Unit) (h : Above (lvS sm) O) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

/-- The levels the waits are at. -/
theorem lv_order : ∀ s ∈ order, ∀ t : Fin 2, 1 < lvS (.dma (recvSem t s)) := by decide +kernel
theorem lv_plane : ∀ s : Fin 16, 4 ≤ s.val → ∀ t : Fin 2, lvS (.dma (recvSem t s)) = 3 := by decide +kernel
theorem lv_col : ∀ s : Fin 16, s ≠ 0 → s.val < 4 → ∀ t : Fin 2, lvS (.dma (recvSem t s)) = 2 := by decide +kernel
theorem lv_send : ∀ s : Fin 16, s ≠ 0 → ∀ t : Fin 2, lvS (.dma (sendSem t s)) = 0 := by decide +kernel

end Cert.KernelIdeal.Core
end
-- ==== Proof.Core.Ops.lean ====
/- The kernel's small program pieces, each with what it takes and what it leaves. -/
module

public import proofs.«01_k».proof.Proof.Core.Sched
public import Idealize.ShloMosaic.Lib.Pipeline.BigSepL

@[expose] public section

noncomputable section

namespace Cert.KernelIdeal.Core

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.Transfers (shareTokN shareDrop pointsTo_toks_range)

variable {F : FTy → Type} [FloatOps F] [Named F]

local notation "𝕄" => MT nD τ sig Unit (Elt F) ℕ UU ℕ

/-! ## The cells together, and what every device knows of them -/

abbrev X : Type := Fin 2 × Fin 15
abbrev J : Type := Unit ⊕ (X ⊕ X)

/-- A device's own semaphores: the barrier, then for keys and values and each slab the sending and the receiving one. -/
def csem : J → SemLoc sig
  | .inl _ => .reg barSem
  | .inr (.inl x) => .dma (sendSem x.1 x.2.succ)
  | .inr (.inr x) => .dma (recvSem x.1 x.2.succ)
abbrev kcell (cj : Dev nD × J) : GSem nD τ sig := ((cj.1 : Thread nD τ), csem cj.2)

variable (I : Ins F) (K : Dev nD × J → ℕ)

def records : sProp 𝕄 :=
  iprop((bigSep Finset.univ fun cj : Dev nD × J => cellInv ER (Rd I) (K cj) (kcell cj))
    ∗ (bigSep Finset.univ fun cj : Dev nD × J => reached ER (kcell cj) 0) ∗ levAts L lv)

instance records_persistent : BI.Persistent (records I K) := by unfold records; infer_instance

theorem inv_at (cj : Dev nD × J) : (bigSep Finset.univ fun cj : Dev nD × J => (cellInv ER (Rd I) (K cj) (kcell cj) : sProp 𝕄)) ⊢ cellInv ER (Rd I) (K cj) (kcell cj) :=
  bigSep_elim (Finset.mem_univ cj)
omit [FloatOps F] [Named F] in
theorem reached_at (cj : Dev nD × J) : (bigSep Finset.univ fun cj : Dev nD × J => (reached ER (kcell cj) 0 : sProp 𝕄)) ⊢ reached ER (kcell cj) 0 :=
  bigSep_elim (Finset.mem_univ cj)

theorem rec_at (cj : Dev nD × J) : records I K ⊢ iprop(cellInv ER (Rd I) (K cj) (kcell cj) ∗ reached ER (kcell cj) 0) := by
  unfold records
  iintro ⟨#HI, #HR, -⟩
  isplitr
  · iapply (inv_at I K cj); iexact HI
  · iapply (reached_at (F := F) cj); iexact HR

/-- The slab's place among the fifteen that receive a copy. -/
def slabIx (s : Fin 16) : Fin 15 := ⟨s.val - 1, by omega⟩
theorem slabIx_succ {s : Fin 16} (hs : s ≠ 0) : (slabIx s).succ = s := by
  have h : s.val ≠ 0 := fun h => hs (Fin.ext h)
  exact Fin.ext (by show s.val - 1 + 1 = s.val; omega)

def kBar (c : Dev nD) : ℕ := K (c, .inl ())
def kSend (t : Fin 2) (s : Fin 16) (c : Dev nD) : ℕ := K (c, .inr (.inl (t, slabIx s)))
def kRecv (t : Fin 2) (s : Fin 16) (c : Dev nD) : ℕ := K (c, .inr (.inr (t, slabIx s)))

theorem rec_bar (c : Dev nD) : records I K ⊢ iprop(cellInv ER (Rd I) (kBar K c) (barCell c) ∗ reached ER (barCell c) 0) := rec_at I K (c, .inl ())
theorem rec_send (t : Fin 2) (s : Fin 16) (hs : s ≠ 0) (c : Dev nD) :
    records I K ⊢ iprop(cellInv ER (Rd I) (kSend K t s c) (sendCell t s c) ∗ reached ER (sendCell t s c) 0) := by
  have h := rec_at I K (c, .inr (.inl (t, slabIx s)))
  rw [show kcell (c, .inr (.inl (t, slabIx s))) = sendCell t s c from by show (_, SemLoc.dma (sendSem t (slabIx s).succ)) = _; rw [slabIx_succ hs]] at h
  exact h
theorem rec_recv (t : Fin 2) (s : Fin 16) (hs : s ≠ 0) (c : Dev nD) :
    records I K ⊢ iprop(cellInv ER (Rd I) (kRecv K t s c) (recvCell t s c) ∗ reached ER (recvCell t s c) 0) := by
  have h := rec_at I K (c, .inr (.inr (t, slabIx s)))
  rw [show kcell (c, .inr (.inr (t, slabIx s))) = recvCell t s c from by show (_, SemLoc.dma (recvSem t (slabIx s).succ)) = _; rw [slabIx_succ hs]] at h
  exact h
theorem rec_lev : records I K ⊢ (levAts L lv : sProp 𝕄) := by
  unfold records; iintro ⟨-, -, H⟩; iexact H

/-- What the core owes, whatever it has waited for. -/
def owing (c : Dev nD) (O : CellTallies nD τ sig Unit) : sProp 𝕄 := iprop(∃ W, owes (c : Thread nD τ) O W)

abbrev WP (c : Dev nD) (k : KProg F) (Q : PUnit → sProp 𝕄) : sProp 𝕄 := wp frame (wpE (defs₀ (F := F)) 𝒱₀ (c : Thread nD τ) none) Set.univ k Q

/-! ## Lists of pieces -/

/-- A list of pieces, each taking `A i` and leaving `B i`, with a resource `R` threaded through by the pieces still to come. -/
theorem wp_seqs {ι : Type} (c : Dev nD) (f : ι → KProg F → KProg F) (P : sProp 𝕄) [BI.Persistent P] (A B : ι → sProp 𝕄) (R : List ι → sProp 𝕄) (rest : List ι)
    (Q : PUnit → sProp 𝕄) (ok : ι → Prop)
    (h : ∀ i l, ok i → ∀ k, iprop(P ∗ A i ∗ R (i :: l)) ⊢ iprop(((B i ∗ R l) -∗ WP c k Q) -∗ WP c (f i k) Q)) :
    ∀ (l : List ι), (∀ i ∈ l, ok i) → ∀ k, iprop(P ∗ bigSepL l A ∗ R (l ++ rest)) ⊢ iprop(((bigSepL l B ∗ R rest) -∗ WP c k Q) -∗ WP c (seqs f l k) Q)
  | [], _, k => by
    rw [bigSepL_nil, bigSepL_nil, List.nil_append]
    iintro ⟨-, -, HR⟩ Hk
    iapply Hk
    isplitr; · iempintro
    iexact HR
  | i :: l, hl, k => by
    rw [bigSepL_cons', bigSepL_cons', List.cons_append, show seqs f (i :: l) k = f i (seqs f l k) from rfl]
    iintro ⟨#HP, ⟨HA, HAs⟩, HR⟩ Hk
    iapply (h i (l ++ rest) (hl i List.mem_cons_self) _) $$ [HA HR]
    · isplitr; · iexact HP
      isplitl [HA] <;> iassumption
    iintro ⟨HB, HR⟩
    iapply (wp_seqs c f P A B R rest Q ok h l (fun j hj => hl j (List.mem_cons_of_mem _ hj)) k) $$ [HAs HR]
    · isplitr; · iexact HP
      isplitl [HAs] <;> iassumption
    iintro ⟨HBs, HR⟩
    iapply Hk
    isplitl [HB HBs]
    · isplitl [HB] <;> iassumption
    iexact HR

/-! ## A copy -/

omit [FloatOps F] [Named F] in
theorem credit_k (s : Fin 16) : (kSlab s).view.dmaCredit = unitsOf 0 := congrArg (fun b => sig.dmaCredit .tc _ b S128x512 .fp8e4m3) rfl
omit [FloatOps F] [Named F] in
theorem credit_v (s : Fin 16) : (vSlab s).view.dmaCredit = unitsOf 1 := congrArg (fun b => sig.dmaCredit .tc _ b S128x512 .bf16) rfl

theorem wp_copy_gen {e : EltTy} (M : Memref sig .tc .vmem S2048x512 e) (t : Fin 2) (s : Fin 16) (hs : s ≠ 0) (c : Dev nD)
    (g : Buf (Elt F) (M.view.loc (c : Thread nD τ))) (g' : Buf (Elt F) (M.view.loc (peer (hop s) c : Thread nD τ)))
    (hg : (M.slice (slabR s) (fun _ => rfl)).view.read (Elt F) g' = (M.slice (slabR (src s)) (fun _ => rfl)).view.read (Elt F) g)
    (hS : rows M (128 * (src s).val) 128 c (shareTokN fullShare (tokIx s)) g = sendPay I t s c)
    (hR : rows M (128 * s.val) 128 (peer (hop s) c) fullShare g' = recvPay I t s (peer (hop s) c))
    (hL : loose t (128 * s.val) 128 (peer (hop s) c) = (iprop(∃ f, rows M (128 * s.val) 128 (peer (hop s) c) fullShare f) : sProp 𝕄))
    (hN : (M.slice (slabR s) (fun _ => rfl)).view.dmaCredit = unitsOf t)
    {hsc : (M.slice (slabR s) (fun _ => rfl) : Memref sig (Dev.tc (peer (hop s) c) : Thread nD τ).2.kind .vmem S128x512 e).view.ref.isScScratch = false}
    {hsrc : (M.slice (slabR (src s)) (fun _ => rfl)).view.WordExact} {hdst : (M.slice (slabR s) (fun _ => rfl)).view.WordExact}
    {hsem : DmaTarget.Typed .vmem (.dma (recvSem t s)) (.remote (Dev.tc (peer (hop s) c) : Thread nD τ) (M.slice (slabR s) (fun _ => rfl)) (.dma (sendSem t s)) hsc)}
    {Q : PUnit → sProp 𝕄} {k : PUnit → KProg F} (O : CellTallies nD τ sig Unit) (W : Waits sig Unit) :
    iprop(records I K ∗ sendPay I t s c ∗ loose t (128 * s.val) 128 (peer (hop s) c)
        ∗ owes (c : Thread nD τ) (O + tallyAt (recvCell t s (peer (hop s) c)) () (unitsOf t)) W
        ∗ dutyTok ER (sendCell t s c) 0 0 ∗ dutyTok ER (recvCell t s (peer (hop s) c)) 0 0)
      ⊢ iprop(((cred (tallyAt (sendCell t s c) () (unitsOf t)) ∗ owes (c : Thread nD τ) O W) -∗ WP c (k ⟨⟩) Q)
          -∗ WP c (.op (.enqueueDma (M.slice (slabR (src s)) (fun _ => rfl)) (.remote (Dev.tc (peer (hop s) c) : Thread nD τ)
              (M.slice (slabR s) (fun _ => rfl)) (.dma (sendSem t s)) hsc) (.dma (recvSem t s)) hsrc hdst hsem) k) Q) := by
  rw [hL, ← hS]
  iintro ⟨#HK, Hs, ⟨%fd, Hd⟩, HO, HtS, HtR⟩ Hk
  ihave HcS := (rec_send I K t s hs c) $$ HK
  icases HcS with ⟨#HIs, #Hrs⟩
  ihave HcR := (rec_recv I K t s hs (peer (hop s) c)) $$ HK
  icases HcR with ⟨#HIr, #Hrr⟩
  have e1 : rows M (128 * (src s).val) 128 c (shareTokN fullShare (tokIx s)) g
      = ((M.slice (slabR (src s)) (fun _ => rfl)).view.loc (c : Thread nD τ) ↦[(M.slice (slabR (src s)) (fun _ => rfl)).view.set]{shareTokN fullShare (tokIx s)} g : sProp 𝕄) := by
    unfold rows; rw [slab_set M (src s)]
  have e2 : ∀ f, rows M (128 * s.val) 128 (peer (hop s) c) fullShare f
      = ((M.slice (slabR s) (fun _ => rfl)).view.loc (peer (hop s) c : Thread nD τ) ↦[(M.slice (slabR s) (fun _ => rfl)).view.set]{fullShare} f : sProp 𝕄) := by
    intro f; unfold rows; rw [slab_set M s]
  ihave Hs' := (Entails.of_eq e1) $$ Hs
  ihave Hd' := (Entails.of_eq (e2 fd)) $$ Hd
  iapply (Rounds.wp_send_pointsTo 𝒱₀ ER (Rd I) (c : Thread nD τ) none (c' := (peer (hop s) c : Thread nD τ)) (src := M.slice (slabR (src s)) (fun _ => rfl))
    (dst := M.slice (slabR s) (fun _ => rfl)) (sS := .dma (sendSem t s)) (sem := .dma (recvSem t s)) (q := shareTokN fullShare (tokIx s)) (κ₁ := kSend K t s c) (κ₂ := kRecv K t s (peer (hop s) c))
    (r₁ := 0) (r₂ := 0) (d₁ := 0) (d₂ := 0) (fd := fd) (fs := g)
    (by rw [duties_send I c t s hs]; exact Finset.mem_singleton_self _)
    (by rw [duties_recv I (peer (hop s) c) t s hs]; exact Finset.mem_singleton_self _)
    () () (unitsOf t) hN (amount_send I c t s hs 0) (amount_recv I (peer (hop s) c) t s hs 0) O rfl (W := W)
    (by rw [payload_send I c t s hs, ← hS, e1])
    (by
      rw [payload_recv I (peer (hop s) c) t s hs, ← hR, e2]
      exact Entails.of_eq (pointsTo_congr (write_eq_of_read _ _ _ _ hg)))) $$ [Hs' Hd' HO HtS HtR]
  · isplitr; · iexact HIs
    isplitr; · iexact HIr
    isplitl [Hs']; · iexact Hs'
    isplitl [Hd']; · iexact Hd'
    isplitl [HO]; · iexact HO
    isplitl [HtS]; · iexact HtS
    isplitr; · iexact Hrs
    isplitl [HtR]; · iexact HtR
    iexact Hrr
  iexact Hk

/-- What the two copies into slab `s` take: the source's read shares, the landing rows, the tokens of the four payments. -/
def SendTok (c : Dev nD) (s : Fin 16) : sProp 𝕄 :=
  iprop((dutyTok ER (sendCell 0 s c) 0 0 ∗ dutyTok ER (recvCell 0 s (peer (hop s) c)) 0 0)
    ∗ (dutyTok ER (sendCell 1 s c) 0 0 ∗ dutyTok ER (recvCell 1 s (peer (hop s) c)) 0 0))
def SendDst (c : Dev nD) (s : Fin 16) : sProp 𝕄 :=
  iprop(loose 0 (128 * s.val) 128 (peer (hop s) c) ∗ loose 1 (128 * s.val) 128 (peer (hop s) c))
def SendSrc (c : Dev nD) (s : Fin 16) : sProp 𝕄 := iprop(sendPay I 0 s c ∗ sendPay I 1 s c)
def SendIn (c : Dev nD) (s : Fin 16) : sProp 𝕄 := iprop(SendTok c s ∗ SendDst c s ∗ SendSrc I c s)
def SendOut (c : Dev nD) (s : Fin 16) : sProp 𝕄 := iprop(cred (tallyAt (sendCell 0 s c) () (unitsOf 0)) ∗ cred (tallyAt (sendCell 1 s c) () (unitsOf 1)))

theorem wp_copies (c : Dev nD) (Q : PUnit → sProp 𝕄) (s : Fin 16) (l : List (Fin 16)) (hs : s ≠ 0) (k : KProg F) :
    iprop(records I K ∗ SendIn I c s ∗ owing c (owedS c (s :: l))) ⊢ iprop(((SendOut c s ∗ owing c (owedS c l)) -∗ WP c k Q) -∗ WP c (send c s k) Q) := by
  unfold SendIn SendTok SendDst SendSrc SendOut owing send
  rw [show owedS c (s :: l) = owedS c l + tallyAt (recvCell 1 s (peer (hop s) c)) () (unitsOf 1) + tallyAt (recvCell 0 s (peer (hop s) c)) () (unitsOf 0) from rfl]
  iintro ⟨#HK, ⟨⟨⟨Ht0, Hr0⟩, Ht1, Hr1⟩, ⟨Hd0, Hd1⟩, Hs0, Hs1⟩, ⟨%W, HO⟩⟩ Hk
  iapply (wp_copy_gen I K kbuf 0 s hs c (kAll I c) (kAll I (peer (hop s) c))
    ((kAll_slab I _ s).trans ((congrArg (fun d => pair (kHalf I d)) (owner_send s c hs)).trans (kAll_slab I _ (src s)).symm)) rfl rfl rfl (credit_k s) _ W) $$ [Hs0 Hd0 HO Ht0 Hr0]
  · isplitr; · iexact HK
    isplitl [Hs0]; · iexact Hs0
    isplitl [Hd0]; · iexact Hd0
    isplitl [HO]; · iexact HO
    isplitl [Ht0] <;> iassumption
  iintro ⟨Hc0, HO⟩
  iapply (wp_copy_gen I K vbuf 1 s hs c (vAll I c) (vAll I (peer (hop s) c))
    ((vAll_slab I _ s).trans ((congrArg (fun d => pair (vHalf I d)) (owner_send s c hs)).trans (vAll_slab I _ (src s)).symm)) rfl rfl rfl (credit_v s) _ W) $$ [Hs1 Hd1 HO Ht1 Hr1]
  · isplitr; · iexact HK
    isplitl [Hs1]; · iexact Hs1
    isplitl [Hd1]; · iexact Hd1
    isplitl [HO]; · iexact HO
    isplitl [Ht1] <;> iassumption
  iintro ⟨Hc1, HO⟩
  iapply Hk
  isplitl [Hc0 Hc1]
  · isplitl [Hc0] <;> iassumption
  iexists W; iexact HO

/-- The copies into a list of slabs. -/
theorem wp_sends (c : Dev nD) (Q : PUnit → sProp 𝕄) (l rest : List (Fin 16)) (hl : ∀ s ∈ l, s ≠ 0) (k : KProg F) :
    iprop(records I K ∗ bigSepL l (SendIn I c) ∗ owing c (owedS c (l ++ rest)))
      ⊢ iprop(((bigSepL l (SendOut c) ∗ owing c (owedS c rest)) -∗ WP c k Q) -∗ WP c (seqs (send c) l k) Q) :=
  wp_seqs c (send c) (records I K) (SendIn I c) (SendOut c) (fun l => owing c (owedS c l)) rest Q (fun s => s ≠ 0)
    (fun s l hs k => wp_copies I K c Q s l hs k) l hl k

/-! ## A wait on a copy's semaphore, the semaphore then closed -/

theorem wp_wait_gen (c : Dev nD) (q : DmaSem sig) (κ : ℕ) (n : ℕ) (pay : sProp 𝕄) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma q) n K)
    (he : (Rd I).expect ((c : Thread nD τ), .dma q) 0 = n)
    (hp : bigSep ((Rd I).duties ((c : Thread nD τ), .dma q) 0 \ ∅) (fun b => (Rd I).payload ((c : Thread nD τ), .dma q) 0 b) = pay)
    (O : CellTallies nD τ sig Unit) (hO : Above (lvS (.dma q)) O) (Q : PUnit → sProp 𝕄) (k : PUnit → KProg F) :
    iprop(records I K ∗ cellInv ER (Rd I) κ ((c : Thread nD τ), .dma q) ∗ atPos ER ((c : Thread nD τ), .dma q) 0 ∅ 0
        ∗ cred (tallyAt ((c : Thread nD τ), .dma q) () n) ∗ owing c O)
      ⊢ iprop(((pay ∗ semVal ((c : Thread nD τ), .dma q) 0 ∗ owing c O) -∗ WP c (k ⟨⟩) Q) -∗ WP c (.op w k) Q) := by
  unfold owing
  iintro ⟨#HK, #HI, Hat, Hc, ⟨%W, HO⟩⟩ Hk
  ihave #HL := (@rec_lev F _ _ I K) $$ HK
  iapply (Rounds.wp_wait_rest_token 𝒱₀ ER (Rd I) (c : Thread nD τ) none (κ := κ) hw (Set.mem_univ _) () (O := O) (W := W) (R := 0) (m := 0) (T := ∅)
      (by rw [Nat.zero_add, he])) $$ [Hc HO Hat]
  · isplitr; · iexact HI
    isplitl [Hc]; · iexact Hc
    isplitl [HO]; · iexact HO
    isplitr
    · iapply (mayWait c (.dma q) O hO); iexact HL
    iexact Hat
  iintro ⟨HO, Hat, -, Hpay⟩
  ihave Hp := (Entails.of_eq hp) $$ Hpay
  imod (Rounds.cell_close ER (Rd I) (Set.mem_univ κ) (fun h => h) (R := 0 + 1) (duties_later I ((c : Thread nD τ), .dma q))) $$ [Hat] with Hz
  · isplitr; · iexact HI
    iexact Hat
  iapply Hk
  isplitl [Hp]; · iexact Hp
  isplitl [Hz]; · iexact Hz
  iexists _; iexact HO

def RecvIn (c : Dev nD) (s : Fin 16) : sProp 𝕄 :=
  iprop((atPos ER (recvCell 0 s c) 0 ∅ 0 ∗ cred (tallyAt (recvCell 0 s c) () (unitsOf 0))) ∗ (atPos ER (recvCell 1 s c) 0 ∅ 0 ∗ cred (tallyAt (recvCell 1 s c) () (unitsOf 1))))
def RecvZ (c : Dev nD) (s : Fin 16) : sProp 𝕄 := iprop(semVal (recvCell 0 s c) 0 ∗ semVal (recvCell 1 s c) 0)
def RecvOut (c : Dev nD) (s : Fin 16) : sProp 𝕄 := iprop((recvPay I 0 s c ∗ recvPay I 1 s c) ∗ RecvZ c s)
def SentIn (c : Dev nD) (s : Fin 16) : sProp 𝕄 := iprop((atPos ER (sendCell 0 s c) 0 ∅ 0 ∗ atPos ER (sendCell 1 s c) 0 ∅ 0) ∗ SendOut c s)
def SentZ (c : Dev nD) (s : Fin 16) : sProp 𝕄 := iprop(semVal (sendCell 0 s c) 0 ∗ semVal (sendCell 1 s c) 0)
def SentOut (c : Dev nD) (s : Fin 16) : sProp 𝕄 := iprop(SendSrc I c s ∗ SentZ c s)

theorem wp_landing (c : Dev nD) (Q : PUnit → sProp 𝕄) (s : Fin 16) (hs : s ≠ 0) (O : CellTallies nD τ sig Unit)
    (hO : ∀ t : Fin 2, Above (lvS (.dma (recvSem t s))) O) (k : KProg F) :
    iprop(records I K ∗ RecvIn c s ∗ owing c O) ⊢ iprop(((RecvOut I c s ∗ owing c O) -∗ WP c k Q) -∗ WP c (recv s k) Q) := by
  unfold RecvIn RecvOut RecvZ recv
  iintro ⟨#HK, ⟨⟨Ha0, Hc0⟩, Ha1, Hc1⟩, HO⟩ Hk
  ihave H0 := (rec_recv I K 0 s hs c) $$ HK
  icases H0 with ⟨#HI0, -⟩
  ihave H1 := (rec_recv I K 1 s hs c) $$ HK
  icases H1 with ⟨#HI1, -⟩
  iapply (wp_wait_gen I K c (recvSem 0 s) (kRecv K 0 s c) (unitsOf 0) (recvPay I 0 s c) (fun K => (wpE_waitDma2_eq 𝒱₀ (c : Thread nD τ) none Set.univ K).trans (by rw [credit_k])) (expect_recv I c 0 s hs) (rest_recv I c 0 s hs) O (hO 0) Q _) $$ [Ha0 Hc0 HO]
  · isplitr; · iexact HK
    isplitr; · iexact HI0
    isplitl [Ha0]; · iexact Ha0
    isplitl [Hc0] <;> iassumption
  iintro ⟨Hp0, Hz0, HO⟩
  iapply (wp_wait_gen I K c (recvSem 1 s) (kRecv K 1 s c) (unitsOf 1) (recvPay I 1 s c) (fun K => (wpE_waitDma2_eq 𝒱₀ (c : Thread nD τ) none Set.univ K).trans (by rw [credit_v])) (expect_recv I c 1 s hs) (rest_recv I c 1 s hs) O (hO 1) Q _) $$ [Ha1 Hc1 HO]
  · isplitr; · iexact HK
    isplitr; · iexact HI1
    isplitl [Ha1]; · iexact Ha1
    isplitl [Hc1] <;> iassumption
  iintro ⟨Hp1, Hz1, HO⟩
  iapply Hk
  isplitr [HO]
  · isplitl [Hp0 Hp1]
    · isplitl [Hp0] <;> iassumption
    · isplitl [Hz0] <;> iassumption
  iexact HO

theorem wp_left (c : Dev nD) (Q : PUnit → sProp 𝕄) (s : Fin 16) (hs : s ≠ 0) (k : KProg F) :
    iprop(records I K ∗ SentIn c s ∗ owing c 0) ⊢ iprop(((SentOut I c s ∗ owing c 0) -∗ WP c k Q) -∗ WP c (sent s k) Q) := by
  unfold SentIn SentOut SentZ SendOut SendSrc sent
  iintro ⟨#HK, ⟨⟨Ha0, Ha1⟩, Hc0, Hc1⟩, HO⟩ Hk
  ihave H0 := (rec_send I K 0 s hs c) $$ HK
  icases H0 with ⟨#HI0, -⟩
  ihave H1 := (rec_send I K 1 s hs c) $$ HK
  icases H1 with ⟨#HI1, -⟩
  iapply (wp_wait_gen I K c (sendSem 0 s) (kSend K 0 s c) (unitsOf 0) (sendPay I 0 s c) (fun K => (wpE_waitDma2_eq 𝒱₀ (c : Thread nD τ) none Set.univ K).trans (by rw [credit_k])) (expect_send I c 0 s hs) (rest_send I c 0 s hs) 0 (Above.zero _) Q _) $$ [Ha0 Hc0 HO]
  · isplitr; · iexact HK
    isplitr; · iexact HI0
    isplitl [Ha0]; · iexact Ha0
    isplitl [Hc0] <;> iassumption
  iintro ⟨Hp0, Hz0, HO⟩
  iapply (wp_wait_gen I K c (sendSem 1 s) (kSend K 1 s c) (unitsOf 1) (sendPay I 1 s c) (fun K => (wpE_waitDma2_eq 𝒱₀ (c : Thread nD τ) none Set.univ K).trans (by rw [credit_v])) (expect_send I c 1 s hs) (rest_send I c 1 s hs) 0 (Above.zero _) Q _) $$ [Ha1 Hc1 HO]
  · isplitr; · iexact HK
    isplitr; · iexact HI1
    isplitl [Ha1]; · iexact Ha1
    isplitl [Hc1] <;> iassumption
  iintro ⟨Hp1, Hz1, HO⟩
  iapply Hk
  isplitr [HO]
  · isplitl [Hp0 Hp1]
    · isplitl [Hp0] <;> iassumption
    · isplitl [Hz0] <;> iassumption
  iexact HO

theorem wp_landings (c : Dev nD) (Q : PUnit → sProp 𝕄) (l : List (Fin 16)) (hl : ∀ s ∈ l, s ≠ 0) (k : KProg F) :
    iprop(records I K ∗ bigSepL l (RecvIn c) ∗ owing c 0) ⊢ iprop(((bigSepL l (RecvOut I c) ∗ owing c 0) -∗ WP c k Q) -∗ WP c (seqs recv l k) Q) :=
  wp_seqs c recv (records I K) (RecvIn c) (RecvOut I c) (fun _ => owing c 0) [] Q (fun s => s ≠ 0)
    (fun s l hs k => wp_landing I K c Q s hs 0 (fun _ => Above.zero _) k) l hl k

theorem wp_lefts (c : Dev nD) (Q : PUnit → sProp 𝕄) (l : List (Fin 16)) (hl : ∀ s ∈ l, s ≠ 0) (k : KProg F) :
    iprop(records I K ∗ bigSepL l (SentIn c) ∗ owing c 0) ⊢ iprop(((bigSepL l (SentOut I c) ∗ owing c 0) -∗ WP c k Q) -∗ WP c (seqs sent l k) Q) :=
  wp_seqs c sent (records I K) (SentIn c) (SentOut I c) (fun _ => owing c 0) [] Q (fun s => s ≠ 0)
    (fun s l hs k => wp_left I K c Q s hs k) l hl k

/-! ## The barrier -/

/-- What signal `b` takes: its token and the rows it hands over. -/
def SigIn (c : Dev nD) (b : Fin 6) : sProp 𝕄 :=
  iprop(dutyTok ER (barCell (peer b c)) 0 b ∗ bigSep (slabsOf b) fun s => iprop(loose 0 (128 * s.val) 128 c ∗ loose 1 (128 * s.val) 128 c))

theorem wp_sig (c : Dev nD) (O : CellTallies nD τ sig Unit) (Q : PUnit → sProp 𝕄) (b : Fin 6) (l : List (Fin 6)) (k : KProg F) :
    iprop(records I K ∗ SigIn c b ∗ owing c (owedB c O (b :: l))) ⊢ iprop(((emp ∗ owing c (owedB c O l)) -∗ WP c k Q) -∗ WP c (sig1 c b k) Q) := by
  unfold SigIn owing sig1
  iintro ⟨#HK, ⟨Ht, Hp⟩, ⟨%W, HO⟩⟩ Hk
  ihave H0 := (rec_bar I K (peer b c)) $$ HK
  icases H0 with ⟨#HI, #HR⟩
  iapply (Rounds.wp_signal 𝒱₀ ER (Rd I) (c : Thread nD τ) none (dst := (peer b c : Thread nD τ)) (κ := kBar K (peer b c)) (d := b) (r := 0)
      (by rw [duties_bar]; exact Finset.mem_univ _) (amount_bar I (peer b c) b) () (owedB c O l) rfl (W := W)) $$ [HO Ht Hp]
  · isplitr; · iexact HI
    isplitl [HO]; · iexact HO
    isplitl [Ht]; · iexact Ht
    isplitl [Hp]
    · rw [payload_bar]; unfold barPay
      iapply (Entails.of_eq (bigSep_congr (s := slabsOf b) (fun s hs => by
        have h := Finset.mem_filter.mp hs
        rw [← h.2, peer_hop_grant s c (Finset.ne_of_mem_erase h.1)])))
      iexact Hp
    iexact HR
  iintro HO
  iapply Hk
  isplitr; · iempintro
  iexists W; iexact HO

theorem wp_sigs (c : Dev nD) (O : CellTallies nD τ sig Unit) (Q : PUnit → sProp 𝕄) (k : KProg F) :
    iprop(records I K ∗ bigSepL sigs (SigIn c) ∗ owing c (owedB c O sigs)) ⊢ iprop((owing c O -∗ WP c k Q) -∗ WP c (seqs (sig1 c) [0, 1, 2, 3, 4, 5] k) Q) := by
  iintro ⟨#HK, HA, HO⟩ Hk
  iapply (wp_seqs c (sig1 c) (records I K) (SigIn c) (fun _ => iprop(emp)) (fun l => owing c (owedB c O l)) [] Q (fun _ => True)
    (fun b l _ k => wp_sig I K c O Q b l k) sigs (fun _ _ => trivial) k) $$ [HA HO]
  · isplitr; · iexact HK
    isplitl [HA]; · iexact HA
    iexact HO
  iintro ⟨-, HO⟩
  iapply Hk; iexact HO

theorem wp_bar (c : Dev nD) (O : CellTallies nD τ sig Unit) (hO : Above 1 O) (Q : PUnit → sProp 𝕄) (k : PUnit → KProg F) :
    iprop(records I K ∗ atPos ER (barCell c) 0 ∅ 0 ∗ cred (tallyAt (barCell c) () 6) ∗ owing c O)
      ⊢ iprop(((bigSep slabs (SendDst c) ∗ semVal (barCell c) 0 ∗ owing c O) -∗ WP c (k ⟨⟩) Q) -∗ WP c (.op (.semWait barSem ((6 : ℕ) : Int)) k) Q) := by
  unfold owing
  iintro ⟨#HK, Hat, Hc, ⟨%W, HO⟩⟩ Hk
  ihave H0 := (rec_bar I K c) $$ HK
  icases H0 with ⟨#HI, -⟩
  ihave #HL := (@rec_lev F _ _ I K) $$ HK
  iapply (Rounds.wp_wait_rest_token 𝒱₀ ER (Rd I) (c : Thread nD τ) none (κ := kBar K c) (wpE_semWait_eq 𝒱₀ (c : Thread nD τ) none Set.univ)
      (Set.mem_univ _) () (O := O) (W := W) (R := 0) (m := 0) (T := ∅) (by rw [expect_bar])) $$ [Hc HO Hat]
  · isplitr; · iexact HI
    isplitl [Hc]; · iexact Hc
    isplitl [HO]; · iexact HO
    isplitr
    · iapply (mayWait c (.reg barSem) O hO); iexact HL
    iexact Hat
  iintro ⟨HO, Hat, -, Hpay⟩
  ihave Hp := (Entails.of_eq (rest_bar I c)) $$ Hpay
  imod (Rounds.cell_close ER (Rd I) (Set.mem_univ (kBar K c)) (fun h => h) (R := 0 + 1) (duties_later I (barCell c))) $$ [Hat] with Hz
  · isplitr; · iexact HI
    iexact Hat
  iapply Hk
  isplitl [Hp]; · iexact Hp
  isplitl [Hz]; · iexact Hz
  iexists _; iexact HO

/-! ## Loads and stores -/

theorem wp_loads {n : ℕ} (r : ℕ) (h : r + n ≤ 2048) (hn : 0 < (⟨2, ![n, 64]⟩ : Shape).numel) (c : Dev nD) (q : PosShare TreeShare) (Q : PUnit → sProp 𝕄) :
    ∀ (m j : ℕ) (k : (Fin m → FVec F ⟨2, ![n, 64]⟩ .fp8e4m3 × FVec F ⟨2, ![n, 64]⟩ .bf16) → KProg F),
      iprop(held I 0 r n c q ∗ held I 1 r n c q)
        ⊢ iprop(((held I 0 r n c q ∗ held I 1 r n c q) -∗ WP c (k fun i => (kTile I c r h (j + i.val), vTile I c r h (j + i.val))) Q) -∗ WP c (loads n r h hn m j k) Q)
  | 0, j, k => by
    iintro H Hk
    rw [show loads n r h hn 0 j k = k (fun i => (kTile I c r h (j + i.val), vTile I c r h (j + i.val))) from congrArg k (funext fun i => i.elim0)]
    iapply Hk; iexact H
  | m + 1, j, k => by
    rw [show held I 0 r n c q = (kbuf.view.loc (c : Thread nD τ) ↦[kbuf.view.setOn (rset r n)]{q} kAll I c : sProp 𝕄) from rfl,
      show held I 1 r n c q = (vbuf.view.loc (c : Thread nD τ) ↦[vbuf.view.setOn (rset r n)]{q} vAll I c : sProp 𝕄) from rfl]
    iintro ⟨Hk0, Hv0⟩ Hk
    unfold loads
    iapply (wp_load 𝒱₀ (c : Thread nD τ) none Set.univ (m := kbuf) (tile_sub kbuf h j)) $$ Hk0; iintro Hk0
    iapply (wp_load 𝒱₀ (c : Thread nD τ) none Set.univ (m := vbuf) (tile_sub vbuf h j)) $$ Hv0; iintro Hv0
    have e0 : (kbuf.view.loc (c : Thread nD τ) ↦[kbuf.view.setOn (rset r n)]{q} kAll I c : sProp 𝕄) = held I 0 r n c q := rfl
    have e1 : (vbuf.view.loc (c : Thread nD τ) ↦[vbuf.view.setOn (rset r n)]{q} vAll I c : sProp 𝕄) = held I 1 r n c q := rfl
    iapply (wp_loads r h hn c q Q m (j + 1) _) $$ [Hk0 Hv0]
    · isplitl [Hk0]
      · iapply (Entails.of_eq e0); iexact Hk0
      · iapply (Entails.of_eq e1); iexact Hv0
    iintro H
    rw [show (Fin.cons (kbuf.view.readAt (Elt F) (tileR n r h j).toLoadRect (kAll I c), vbuf.view.readAt (Elt F) (tileR n r h j).toLoadRect (vAll I c))
        (fun i : Fin m => (kTile I c r h (j + 1 + i.val), vTile I c r h (j + 1 + i.val)))
          : Fin (m + 1) → FVec F ⟨2, ![n, 64]⟩ .fp8e4m3 × FVec F ⟨2, ![n, 64]⟩ .bf16) = fun i => (kTile I c r h (j + i.val), vTile I c r h (j + i.val)) from by
      funext i
      refine Fin.cases ?_ (fun i => ?_) i
      · rw [Fin.cons_zero, kTile_read, vTile_read]; rfl
      · rw [Fin.cons_succ, show j + 1 + i.val = j + i.succ.val from by rw [Fin.val_succ]; omega]]
    iapply Hk; iexact H

theorem wp_group {n : ℕ} (T : Tile n) (r : ℕ) (h : r + n ≤ 2048) (hn : 0 < (⟨2, ![n, 64]⟩ : Shape).numel) (c : Dev nD) (q : PosShare TreeShare)
    (qs : Fin 8 → FVec F S128x64 .bf16) (st : Fin 8 → St F) (Q : PUnit → sProp 𝕄) (k : (Fin 8 → St F) → KProg F) :
    iprop(held I 0 r n c q ∗ held I 1 r n c q)
      ⊢ iprop(((held I 0 r n c q ∗ held I 1 r n c q) -∗ WP c (k (fold I T c r h qs st)) Q) -∗ WP c (group T r h hn qs st k) Q) := by
  have e : (fun i : Fin 8 => step T (qs i) (st i) (kTile I c r h (0 + i.val), vTile I c r h (0 + i.val))) = fold I T c r h qs st := by
    funext i; rw [Nat.zero_add]; rfl
  have := wp_loads I r h hn c q Q 8 0 (fun kv => k fun i => step T (qs i) (st i) (kv i))
  rw [e] at this
  exact this

theorem wp_own (c : Dev nD) (Q : PUnit → sProp 𝕄) (k : KProg F) :
    iprop(loose 0 0 128 c ∗ loose 1 0 128 c)
      ⊢ iprop(((held I 0 0 128 c fullShare ∗ held I 1 0 128 c fullShare) -∗ WP c k Q)
          -∗ WP c (own 0 (kHalf I c 0) (vHalf I c 0) <| own 1 (kHalf I c 1) (vHalf I c 1) k) Q) := by
  rw [show held I 0 0 128 c fullShare = (kbuf.view.loc (c : Thread nD τ) ↦[kbuf.view.setOn (rset 0 128)]{fullShare} kAll I c : sProp 𝕄) from rfl,
    show held I 1 0 128 c fullShare = (vbuf.view.loc (c : Thread nD τ) ↦[vbuf.view.setOn (rset 0 128)]{fullShare} vAll I c : sProp 𝕄) from rfl,
    show loose (F := F) 0 0 128 c = iprop(∃ f, (kbuf.view.loc (c : Thread nD τ) ↦[kbuf.view.setOn (rset 0 128)]{fullShare} f)) from rfl,
    show loose (F := F) 1 0 128 c = iprop(∃ f, (vbuf.view.loc (c : Thread nD τ) ↦[vbuf.view.setOn (rset 0 128)]{fullShare} f)) from rfl]
  unfold own
  iintro ⟨⟨%fk, Hk0⟩, ⟨%fv, Hv0⟩⟩ Hk
  iapply (wp_load 𝒱₀ (c : Thread nD τ) none Set.univ (m := kbuf) (own_sub kbuf 0)) $$ Hk0; iintro Hk0
  iapply (wp_store 𝒱₀ (c : Thread nD τ) none Set.univ (m := kbuf) (own_access_sub kbuf 0)) $$ Hk0; iintro Hk0
  iapply (wp_load 𝒱₀ (c : Thread nD τ) none Set.univ (m := vbuf) (own_sub vbuf 0)) $$ Hv0; iintro Hv0
  iapply (wp_store 𝒱₀ (c : Thread nD τ) none Set.univ (m := vbuf) (own_access_sub vbuf 0)) $$ Hv0; iintro Hv0
  iapply (wp_load 𝒱₀ (c : Thread nD τ) none Set.univ (m := kbuf) (own_sub kbuf 1)) $$ Hk0; iintro Hk0
  iapply (wp_store 𝒱₀ (c : Thread nD τ) none Set.univ (m := kbuf) (own_access_sub kbuf 1)) $$ Hk0; iintro Hk0
  iapply (wp_load 𝒱₀ (c : Thread nD τ) none Set.univ (m := vbuf) (own_sub vbuf 1)) $$ Hv0; iintro Hv0
  iapply (wp_store 𝒱₀ (c : Thread nD τ) none Set.univ (m := vbuf) (own_access_sub vbuf 1)) $$ Hv0; iintro Hv0
  iapply Hk
  isplitl [Hk0]
  · iapply (Entails.of_eq (pointsTo_congr (own_stored kbuf.view _ (kAll I c) (kHalf I c) fun b => funext fun x => gathered_own (kHalf I) c b x)))
    iexact Hk0
  · iapply (Entails.of_eq (pointsTo_congr (own_stored vbuf.view _ (vAll I c) (vHalf I c) fun b => funext fun x => gathered_own (vHalf I) c b x)))
    iexact Hv0

end Cert.KernelIdeal.Core
end
-- ==== Proof.Core.Rows.lean ====
/- Rows of the two gathered buffers: split into slabs, into read shares, and joined again. -/
module

public import proofs.«01_k».proof.Proof.Core.Ops

@[expose] public section

noncomputable section

namespace Cert.KernelIdeal.Core

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Transfers (shareTokN shareDrop pointsTo_toks_range)

variable {F : FTy → Type} [FloatOps F] [Named F]

local notation "𝕄" => MT nD τ sig Unit (Elt F) ℕ UU ℕ

/-- The two middle ones of four exchanged. -/
theorem sep_middle (A B C D : sProp 𝕄) : (iprop((A ∗ B) ∗ (C ∗ D)) : sProp 𝕄) = iprop((A ∗ C) ∗ (B ∗ D)) := by
  have h : ∀ A B C D : sProp 𝕄, (iprop((A ∗ B) ∗ (C ∗ D)) : sProp 𝕄) ⊢ iprop((A ∗ C) ∗ (B ∗ D)) := by
    intro A B C D
    iintro ⟨⟨H1, H2⟩, H3, H4⟩
    isplitl [H1 H3]
    · isplitl [H1] <;> iassumption
    · isplitl [H2] <;> iassumption
  exact BI.Entails.antisymm (h A B C D) (h A C B D)

/-- Two chains over one list are one chain of pairs. -/
theorem bigSepL_pairs {ι : Type} (Φ Ψ : ι → sProp 𝕄) : ∀ l : List ι, bigSepL l (fun i => iprop(Φ i ∗ Ψ i)) = iprop(bigSepL l Φ ∗ bigSepL l Ψ)
  | [] => by
    rw [bigSepL_nil, bigSepL_nil, bigSepL_nil]
    refine BI.Entails.antisymm ?_ ?_
    · show (iprop(emp) : sProp 𝕄) ⊢ iprop(emp ∗ emp)
      iintro H; isplitl [H] <;> iempintro
    · show (iprop(emp ∗ emp) : sProp 𝕄) ⊢ iprop(emp)
      iintro ⟨H, -⟩; iexact H
  | i :: l => by
    rw [bigSepL_cons', bigSepL_cons', bigSepL_cons', bigSepL_pairs Φ Ψ l, sep_middle]

/-- The fifteen slabs in the order they are sent, and in the order they are awaited. -/
theorem slabs_sent (Φ : Fin 16 → sProp 𝕄) : bigSep slabs Φ = iprop(bigSepL colSlabs Φ ∗ bigSepL (fwdSlabs 0) Φ ∗ bigSepL (fwdSlabs 1) Φ ∗ bigSepL (fwdSlabs 2) Φ ∗ bigSepL (fwdSlabs 3) Φ) := by
  rw [bigSep_eq_bigSepL_of_eq (colSlabs ++ (fwdSlabs 0 ++ (fwdSlabs 1 ++ (fwdSlabs 2 ++ fwdSlabs 3)))) (by decide) (by decide),
    bigSepL_append, bigSepL_append, bigSepL_append, bigSepL_append]
theorem slabs_awaited (Φ : Fin 16 → sProp 𝕄) : bigSep slabs Φ = iprop(bigSepL [1, 2, 3] Φ ∗ bigSepL (grpSlabs 0) Φ ∗ bigSepL (grpSlabs 1) Φ ∗ bigSepL (grpSlabs 2) Φ ∗ bigSepL (grpSlabs 3) Φ) := by
  rw [bigSep_eq_bigSepL_of_eq ([1, 2, 3] ++ (grpSlabs 0 ++ (grpSlabs 1 ++ (grpSlabs 2 ++ grpSlabs 3)))) (by decide) (by decide),
    bigSepL_append, bigSepL_append, bigSepL_append, bigSepL_append]

/-! ## A whole buffer as sixteen slabs -/

theorem rows_list {e : EltTy} (M : Memref sig .tc .vmem S2048x512 e) (c : Dev nD) (q : PosShare TreeShare) (f) : ∀ n k : ℕ,
    rows (F := F) M (128 * k) (128 * (n + 1)) c q f = bigSepL (List.range' k (n + 1)) fun i => rows M (128 * i) 128 c q f
  | 0, k => by rw [Nat.zero_add, Nat.mul_one]; rfl
  | n + 1, k => by
    rw [show 128 * (n + 1 + 1) = 128 + 128 * (n + 1) from by ring, rows_add, List.range'_succ, bigSepL_cons',
      show 128 * k + 128 = 128 * (k + 1) from by ring, rows_list M c q f n (k + 1)]

theorem rows_slabs {e : EltTy} (M : Memref sig .tc .vmem S2048x512 e) (c : Dev nD) (q : PosShare TreeShare) (f) :
    rows (F := F) M 0 2048 c q f = iprop(rows M 0 128 c q f ∗ bigSep slabs fun s => rows M (128 * s.val) 128 c q f) := by
  rw [show 2048 = 128 + 1920 from rfl, rows_add,
    show rows M (0 + 128) 1920 c q f = rows M (128 * 1) (128 * (14 + 1)) c q f from rfl, rows_list,
    show List.range' 1 (14 + 1) = (([1, 2, 3, 4, 5, 6, 7, 8, 9, 10, 11, 12, 13, 14, 15] : List (Fin 16)).map Fin.val) from by decide, bigSepL_map,
    bigSep_eq_bigSepL_of_eq (S := slabs) [1, 2, 3, 4, 5, 6, 7, 8, 9, 10, 11, 12, 13, 14, 15] (by decide) (by decide)]

theorem loose_slabs (t : Fin 2) (c : Dev nD) : loose t 0 2048 c ⊢ (iprop(loose t 0 128 c ∗ bigSep slabs fun s => loose t (128 * s.val) 128 c) : sProp 𝕄) := by
  have key : ∀ {e : EltTy} (M : Memref sig .tc .vmem S2048x512 e), (iprop(∃ f, rows M 0 2048 c fullShare f) : sProp 𝕄)
      ⊢ iprop((∃ f, rows M 0 128 c fullShare f) ∗ bigSep slabs fun s => iprop(∃ f, rows M (128 * s.val) 128 c fullShare f)) := by
    intro e M
    iintro ⟨%f, H⟩
    ihave H := (Entails.of_eq (rows_slabs M c fullShare f)) $$ H
    icases H with ⟨H0, H⟩
    isplitl [H0]
    · iexists f; iexact H0
    · have m : (bigSep slabs fun s => rows M (128 * s.val) 128 c fullShare f : sProp 𝕄) ⊢ bigSep slabs fun s => iprop(∃ f, rows M (128 * s.val) 128 c fullShare f) :=
        bigSep_mono fun s _ => by
          show rows M (128 * s.val) 128 c fullShare f ⊢ (iprop(∃ f, rows M (128 * s.val) 128 c fullShare f) : sProp 𝕄)
          iintro H; iexists f; iexact H
      iapply m; iexact H
  match t with
  | 0 => exact key kbuf
  | 1 => exact key vbuf

variable (I : Ins F)

/-! ## The keys' and the values' rows together -/

def both (r n : ℕ) (c : Dev nD) (q : PosShare TreeShare) : sProp 𝕄 := iprop(held I 0 r n c q ∗ held I 1 r n c q)

theorem both_add (r n n' : ℕ) (c : Dev nD) (q : PosShare TreeShare) : both I r (n + n') c q = iprop(both I r n c q ∗ both I (r + n) n' c q) := by
  unfold both
  rw [held_add, held_add, sep_middle]

/-- Three slabs side by side. -/
theorem both_three (r : ℕ) (c : Dev nD) (q : PosShare TreeShare) :
    both I r 384 c q = iprop(both I r 128 c q ∗ both I (r + 128) 128 c q ∗ both I (r + 128 + 128) 128 c q) := by
  rw [show 384 = 128 + (128 + 128) from rfl, both_add, both_add]

theorem grp_rows (g : Fin 4) (c : Dev nD) (q : PosShare TreeShare) :
    bigSepL (grpSlabs g) (fun s => both I (128 * s.val) 128 c q) = both I (512 + 384 * g.val) 384 c q := by
  rw [both_three]
  fin_cases g <;> rfl
theorem col_rows (c : Dev nD) (q : PosShare TreeShare) :
    bigSepL [1, 2, 3] (fun s : Fin 16 => both I (128 * s.val) 128 c q) = both I 128 384 c q := by
  rw [both_three]; rfl
theorem col_rows' (c : Dev nD) (q : PosShare TreeShare) :
    bigSepL [1, 2, 3] (fun s : Fin 4 => both I (128 * s.val) 128 c q) = both I 128 384 c q := by
  rw [both_three]; rfl

theorem both_all (c : Dev nD) (q : PosShare TreeShare) : both I 0 2048 c q = iprop(both I 0 128 c q ∗ both I 128 384 c q
    ∗ both I (512 + 384 * 0) 384 c q ∗ both I (512 + 384 * 1) 384 c q ∗ both I (512 + 384 * 2) 384 c q ∗ both I (512 + 384 * 3) 384 c q) := by
  rw [show 2048 = 128 + (384 + (384 + (384 + (384 + 384)))) from rfl, both_add, both_add, both_add, both_add, both_add]

/-! ## Read shares -/

theorem held_toks (t : Fin 2) (r n : ℕ) (c : Dev nD) (k : ℕ) :
    held I t r n c fullShare = iprop(held I t r n c (shareDrop fullShare k) ∗ bigSep (Finset.range k) fun i => held I t r n c (shareTokN fullShare i)) := by
  match t with
  | 0 => exact BI.Entails.antisymm (pointsTo_toks_range fullShare k).1 (pointsTo_toks_range fullShare k).2
  | 1 => exact BI.Entails.antisymm (pointsTo_toks_range fullShare k).1 (pointsTo_toks_range fullShare k).2

theorem both_toks (r n : ℕ) (c : Dev nD) (k : ℕ) (l : List ℕ) (h : Finset.range k = l.toFinset) (hl : l.Nodup) :
    both I r n c fullShare = iprop(both I r n c (shareDrop fullShare k) ∗ bigSepL l fun i => both I r n c (shareTokN fullShare i)) := by
  unfold both
  rw [bigSepL_pairs (fun i => held I 0 r n c (shareTokN fullShare i)) (fun i => held I 1 r n c (shareTokN fullShare i)),
    held_toks I 0 r n c k, held_toks I 1 r n c k, bigSep_eq_bigSepL_of_eq l h hl, bigSep_eq_bigSepL_of_eq l h hl, sep_middle]

/-- A device's own rows: what it reads itself, a share per copy of them to a column, and one per copy to a plane. -/
theorem own_toks (c : Dev nD) : both I 0 128 c fullShare
    = iprop(both I 0 128 c (shareDrop fullShare 6) ∗ bigSepL colSlabs (SendSrc I c) ∗ bigSepL (fwdSlabs 0) (SendSrc I c)) := by
  rw [both_toks I 0 128 c 6 ([5, 4, 3] ++ [2, 1, 0]) (by decide) (by decide), bigSepL_append]
  rfl
/-- The rows landed from a column: what the device reads itself, and a share per copy to a plane. -/
theorem col_toks (z : Fin 4) (hz : z ≠ 0) (c : Dev nD) : both I (128 * z.val) 128 c fullShare
    = iprop(both I (128 * z.val) 128 c (shareDrop fullShare 3) ∗ bigSepL (fwdSlabs z) (SendSrc I c)) := by
  rw [both_toks I (128 * z.val) 128 c 3 [2, 1, 0] (by decide) (by decide)]
  fin_cases z
  · exact absurd rfl hz
  · rfl
  · rfl
  · rfl

theorem both_loose (r n : ℕ) (c : Dev nD) : both I r n c fullShare ⊢ (iprop(loose 0 r n c ∗ loose 1 r n c) : sProp 𝕄) := by
  unfold both
  iintro ⟨H0, H1⟩
  isplitl [H0]
  · iapply (held_loose I 0 r n c); iexact H0
  · iapply (held_loose I 1 r n c); iexact H1

end Cert.KernelIdeal.Core
end
-- ==== Proof.Core.Run.lean ====
/- The body once, at a symbolic device: what it takes and what it leaves. -/
module

public import proofs.«01_k».proof.Proof.Core.Rows

@[expose] public section

noncomputable section

namespace Cert.KernelIdeal.Core

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Transfers (shareTokN shareDrop pointsTo_toks_range)

variable {F : FTy → Type} [FloatOps F] [Named F]

local notation "𝕄" => MT nD τ sig Unit (Elt F) ℕ UU ℕ

variable (I : Ins F) (K : Dev nD × J → ℕ)

/-! ## The copies to a column and to the planes -/

/-- A copy's tokens and landing rows, the source still to come. -/
def SendPre (c : Dev nD) (s : Fin 16) : sProp 𝕄 := iprop(SendTok c s ∗ SendDst c s)

theorem sendIn_list (c : Dev nD) (l : List (Fin 16)) :
    bigSepL l (SendIn I c) = iprop((bigSepL l (SendTok c) ∗ bigSepL l (SendDst c)) ∗ bigSepL l (SendSrc I c)) := by
  rw [← bigSepL_pairs, ← bigSepL_pairs]
  have h : ∀ s, SendIn I c s = iprop((SendTok c s ∗ SendDst c s) ∗ SendSrc I c s) := by
    intro s
    unfold SendIn
    refine BI.Entails.antisymm ?_ ?_
    · show (iprop(SendTok c s ∗ SendDst c s ∗ SendSrc I c s) : sProp 𝕄) ⊢ iprop((SendTok c s ∗ SendDst c s) ∗ SendSrc I c s)
      iintro ⟨H1, H2, H3⟩
      isplitl [H1 H2]
      · isplitl [H1] <;> iassumption
      iexact H3
    · show (iprop((SendTok c s ∗ SendDst c s) ∗ SendSrc I c s) : sProp 𝕄) ⊢ iprop(SendTok c s ∗ SendDst c s ∗ SendSrc I c s)
      iintro ⟨⟨H1, H2⟩, H3⟩
      isplitl [H1]; · iexact H1
      isplitl [H2] <;> iassumption
  rw [funext h]

/-- The tokens and the landing rows of the copies into a list of slabs. -/
def Pres (c : Dev nD) (l : List (Fin 16)) : sProp 𝕄 := iprop(bigSepL l (SendTok c) ∗ bigSepL l (SendDst c))

theorem wp_issue (c : Dev nD) (Q : PUnit → sProp 𝕄) (l rest : List (Fin 16)) (hl : ∀ s ∈ l, s ≠ 0) (k : KProg F) :
    iprop(records I K ∗ Pres c l ∗ bigSepL l (SendSrc I c) ∗ owing c (owedS c (l ++ rest)))
      ⊢ iprop(((bigSepL l (SendOut c) ∗ owing c (owedS c rest)) -∗ WP c k Q) -∗ WP c (seqs (send c) l k) Q) := by
  have h := wp_sends I K c Q l rest hl k
  rw [sendIn_list] at h
  unfold Pres
  iintro ⟨#HK, HP, HS, HO⟩ Hk
  iapply h $$ [HP HS HO]
  · isplitr; · iexact HK
    isplitl [HP HS]
    · isplitl [HP] <;> iassumption
    iexact HO
  iexact Hk

theorem fwd_ne : ∀ z : Fin 4, ∀ s ∈ fwdSlabs z, s ≠ 0 := by decide
theorem fwd_ge : ∀ z : Fin 4, ∀ s ∈ fwdSlabs z, 4 ≤ s.val := by decide
theorem grp_ne : ∀ z : Fin 4, ∀ s ∈ grpSlabs z, s ≠ 0 := by decide
theorem col_ne : ∀ s ∈ colSlabs, s ≠ 0 := by decide

def colIx (z : Fin 4) : Fin 16 := ⟨z.val, by omega⟩
theorem colIx_ne {z : Fin 4} (hz : z ≠ 0) : colIx z ≠ 0 := fun h => hz (Fin.ext (congrArg (fun s : Fin 16 => s.val) h))

def RelayIn (c : Dev nD) (z : Fin 4) : sProp 𝕄 := iprop(RecvIn c (colIx z) ∗ Pres c (fwdSlabs z))
def RelayOut (c : Dev nD) (z : Fin 4) : sProp 𝕄 :=
  iprop(both I (128 * z.val) 128 c (shareDrop fullShare 3) ∗ RecvZ c (colIx z) ∗ bigSepL (fwdSlabs z) (SendOut c))

theorem wp_relay (c : Dev nD) (Q : PUnit → sProp 𝕄) (z : Fin 4) (l : List (Fin 4)) (hz : z ≠ 0) (k : KProg F) :
    iprop(records I K ∗ RelayIn c z ∗ owing c (owedS c ((z :: l).flatMap fwdSlabs)))
      ⊢ iprop(((RelayOut I c z ∗ owing c (owedS c (l.flatMap fwdSlabs))) -∗ WP c k Q) -∗ WP c (relay c z k) Q) := by
  unfold RelayIn RelayOut relay
  rw [List.flatMap_cons]
  have hab : ∀ t : Fin 2, Above (lvS (.dma (recvSem t (colIx z)))) (owedS c (fwdSlabs z ++ l.flatMap fwdSlabs)) := by
    intro t
    rw [lv_col (colIx z) (colIx_ne hz) z.isLt t]
    refine owedS_above c 2 _ fun s hs t => ?_
    have hs' : ∃ z', s ∈ fwdSlabs z' := by
      rcases List.mem_append.mp hs with h | h
      · exact ⟨z, h⟩
      · obtain ⟨z', -, h⟩ := List.mem_flatMap.mp h; exact ⟨z', h⟩
    obtain ⟨z', h⟩ := hs'
    rw [lv_plane s (fwd_ge z' s h) t]; decide
  iintro ⟨#HK, ⟨HR, HP⟩, HO⟩ Hk
  iapply (wp_landing I K c Q (colIx z) (colIx_ne hz) _ hab _) $$ [HR HO]
  · isplitr; · iexact HK
    isplitl [HR] <;> iassumption
  unfold RecvOut
  iintro ⟨⟨Hb, Hz⟩, HO⟩
  ihave Hb := (Entails.of_eq ((show (iprop(recvPay I 0 (colIx z) c ∗ recvPay I 1 (colIx z) c) : sProp 𝕄) = both I (128 * z.val) 128 c fullShare from rfl).trans (col_toks I z hz c))) $$ Hb
  icases Hb with ⟨Hb, Ht⟩
  iapply (wp_issue I K c Q (fwdSlabs z) (l.flatMap fwdSlabs) (fwd_ne z) k) $$ [HP Ht HO]
  · isplitr; · iexact HK
    isplitl [HP]; · iexact HP
    isplitl [Ht] <;> iassumption
  iintro ⟨HS, HO⟩
  iapply Hk
  isplitr [HO]
  · isplitl [Hb]; · iexact Hb
    isplitl [Hz] <;> iassumption
  iexact HO

/-- All the copies a device issues, the columns' landings awaited between. -/
theorem wp_comm (c : Dev nD) (Q : PUnit → sProp 𝕄) (k : KProg F) :
    iprop(records I K ∗ both I 0 128 c fullShare ∗ Pres c colSlabs ∗ Pres c (fwdSlabs 0) ∗ bigSepL [1, 2, 3] (RelayIn c) ∗ owing c (owedS c order))
      ⊢ iprop(((both I 0 128 c (shareDrop fullShare 6) ∗ bigSepL colSlabs (SendOut c) ∗ bigSepL (fwdSlabs 0) (SendOut c)
            ∗ bigSepL [1, 2, 3] (RelayOut I c) ∗ owing c 0) -∗ WP c k Q) -∗ WP c (comm c k) Q) := by
  rw [own_toks, show order = colSlabs ++ (fwdSlabs 0 ++ [1, 2, 3].flatMap fwdSlabs) from rfl]
  unfold comm
  iintro ⟨#HK, ⟨Hb, Hs, Hs0⟩, HP, HP0, HR, HO⟩ Hk
  iapply (wp_issue I K c Q colSlabs (fwdSlabs 0 ++ [1, 2, 3].flatMap fwdSlabs) col_ne _) $$ [HP Hs HO]
  · isplitr; · iexact HK
    isplitl [HP]; · iexact HP
    isplitl [Hs] <;> iassumption
  iintro ⟨HS, HO⟩
  iapply (wp_issue I K c Q (fwdSlabs 0) ([1, 2, 3].flatMap fwdSlabs) (fwd_ne 0) _) $$ [HP0 Hs0 HO]
  · isplitr; · iexact HK
    isplitl [HP0]; · iexact HP0
    isplitl [Hs0] <;> iassumption
  iintro ⟨HS0, HO⟩
  iapply (wp_seqs c (relay c) (records I K) (RelayIn c) (RelayOut I c) (fun l => owing c (owedS c (l.flatMap fwdSlabs))) [] Q (fun z => z ≠ 0)
    (fun z l hz k => wp_relay I K c Q z l hz k) [1, 2, 3] (by decide) k) $$ [HR HO]
  · isplitr; · iexact HK
    isplitl [HR]; · iexact HR
    iexact HO
  iintro ⟨HR, HO⟩
  iapply Hk
  isplitl [Hb]; · iexact Hb
  isplitl [HS]; · iexact HS
  isplitl [HS0]; · iexact HS0
  isplitl [HR]; · iexact HR
  iexact HO

/-! ## The online softmax over the gathered rows -/

theorem wp_keys {n : ℕ} (T : Tile n) (r : ℕ) (h : r + n ≤ 2048) (hn : 0 < (⟨2, ![n, 64]⟩ : Shape).numel) (c : Dev nD) (q : PosShare TreeShare)
    (qs : Fin 8 → FVec F S128x64 .bf16) (st : Fin 8 → St F) (Q : PUnit → sProp 𝕄) (k : (Fin 8 → St F) → KProg F) :
    both I r n c q ⊢ iprop((both I r n c q -∗ WP c (k (fold I T c r h qs st)) Q) -∗ WP c (group T r h hn qs st k) Q) :=
  wp_group I T r h hn c q qs st Q k

theorem wp_later (c : Dev nD) (Q : PUnit → sProp 𝕄) (q : Fin 8 → FVec F S128x64 .bf16) (g : Fin 4) (h : 512 + 384 * g.val + 384 ≤ 2048)
    (st : Fin 8 → St F) (k : (Fin 8 → St F) → KProg F) :
    iprop(records I K ∗ bigSepL (grpSlabs g) (RecvIn c) ∗ owing c 0)
      ⊢ iprop(((both I (512 + 384 * g.val) 384 c fullShare ∗ bigSepL (grpSlabs g) (RecvZ c) ∗ owing c 0)
          -∗ WP c (k (fold I tile384 c (512 + 384 * g.val) h q st)) Q) -∗ WP c (later q g st k) Q) := by
  unfold later
  iintro ⟨#HK, HR, HO⟩ Hk
  iapply (wp_landings I K c Q (grpSlabs g) (grp_ne g) _) $$ [HR HO]
  · isplitr; · iexact HK
    isplitl [HR] <;> iassumption
  iintro ⟨HR, HO⟩
  have e : bigSepL (grpSlabs g) (RecvOut I c) = iprop(both I (512 + 384 * g.val) 384 c fullShare ∗ bigSepL (grpSlabs g) (RecvZ c)) := by
    rw [← grp_rows, ← bigSepL_pairs]; rfl
  ihave HR := (Entails.of_eq e) $$ HR
  icases HR with ⟨Hb, Hz⟩
  iapply (wp_keys I tile384 (512 + 384 * g.val) h h_S384x64 c fullShare q st Q k) $$ Hb
  iintro Hb
  iapply Hk
  isplitl [Hb]; · iexact Hb
  isplitl [Hz] <;> iassumption

theorem wp_attend (c : Dev nD) (Q : PUnit → sProp 𝕄) (k : (Fin 8 → St F) → KProg F) :
    iprop(records I K ∗ both I 0 128 c (shareDrop fullShare 6) ∗ both I 128 384 c (shareDrop fullShare 3)
        ∗ (bigSepL (grpSlabs 0) (RecvIn c) ∗ bigSepL (grpSlabs 1) (RecvIn c) ∗ bigSepL (grpSlabs 2) (RecvIn c) ∗ bigSepL (grpSlabs 3) (RecvIn c)) ∗ owing c 0)
      ⊢ iprop(((both I 0 128 c (shareDrop fullShare 6) ∗ both I 128 384 c (shareDrop fullShare 3)
          ∗ (both I (512 + 384 * 0) 384 c fullShare ∗ both I (512 + 384 * 1) 384 c fullShare ∗ both I (512 + 384 * 2) 384 c fullShare ∗ both I (512 + 384 * 3) 384 c fullShare)
          ∗ (bigSepL (grpSlabs 0) (RecvZ c) ∗ bigSepL (grpSlabs 1) (RecvZ c) ∗ bigSepL (grpSlabs 2) (RecvZ c) ∗ bigSepL (grpSlabs 3) (RecvZ c)) ∗ owing c 0)
          -∗ WP c (k (states I c)) Q) -∗ WP c (attend (qAll I c) k) Q) := by
  unfold attend states
  iintro ⟨#HK, H0, H1, ⟨HR0, HR1, HR2, HR3⟩, HO⟩ Hk
  iapply (wp_keys I tile128 0 _ h_S128x64 c (shareDrop fullShare 6) (qAll I c) (fun _ => st0) Q _) $$ H0
  iintro H0
  iapply (wp_keys I tile384 128 _ h_S384x64 c (shareDrop fullShare 3) (qAll I c) _ Q _) $$ H1
  iintro H1
  iapply (wp_later I K c Q (qAll I c) 0 (by decide) _ _) $$ [HR0 HO]
  · isplitr; · iexact HK
    isplitl [HR0] <;> iassumption
  iintro ⟨Hb0, Hz0, HO⟩
  iapply (wp_later I K c Q (qAll I c) 1 (by decide) _ _) $$ [HR1 HO]
  · isplitr; · iexact HK
    isplitl [HR1] <;> iassumption
  iintro ⟨Hb1, Hz1, HO⟩
  iapply (wp_later I K c Q (qAll I c) 2 (by decide) _ _) $$ [HR2 HO]
  · isplitr; · iexact HK
    isplitl [HR2] <;> iassumption
  iintro ⟨Hb2, Hz2, HO⟩
  iapply (wp_later I K c Q (qAll I c) 3 (by decide) _ _) $$ [HR3 HO]
  · isplitr; · iexact HK
    isplitl [HR3] <;> iassumption
  iintro ⟨Hb3, Hz3, HO⟩
  iapply Hk
  isplitl [H0]; · iexact H0
  isplitl [H1]; · iexact H1
  isplitl [Hb0 Hb1 Hb2 Hb3]
  · isplitl [Hb0]; · iexact Hb0
    isplitl [Hb1]; · iexact Hb1
    isplitl [Hb2] <;> iassumption
  isplitl [Hz0 Hz1 Hz2 Hz3]
  · isplitl [Hz0]; · iexact Hz0
    isplitl [Hz1]; · iexact Hz1
    isplitl [Hz2] <;> iassumption
  iexact HO

/-! ## The copies' departures -/

theorem wp_done (c : Dev nD) (Q : PUnit → sProp 𝕄) : Q ⟨⟩ ⊢ WP c (.ret ⟨⟩) Q := by
  show _ ⊢ wp frame (wpE (defs₀ (F := F)) 𝒱₀ (c : Thread nD τ) none) Set.univ (.ret ⟨⟩) Q
  rw [wp_ret]; iintro H; imodintro; iexact H

theorem wp_finish (c : Dev nD) (Q : PUnit → sProp 𝕄) :
    iprop(records I K ∗ bigSep slabs (SentIn c) ∗ owing c 0) ⊢ iprop(((bigSep slabs (SentOut I c) ∗ owing c 0) -∗ Q ⟨⟩) -∗ WP c finish Q) := by
  rw [slabs_sent, slabs_sent]
  unfold finish
  iintro ⟨#HK, ⟨HC, H0, H1, H2, H3⟩, HO⟩ Hk
  iapply (wp_lefts I K c Q colSlabs col_ne _) $$ [HC HO]
  · isplitr; · iexact HK
    isplitl [HC] <;> iassumption
  iintro ⟨HC, HO⟩
  iapply (wp_lefts I K c Q (fwdSlabs 0) (fwd_ne 0) _) $$ [H0 HO]
  · isplitr; · iexact HK
    isplitl [H0] <;> iassumption
  iintro ⟨H0, HO⟩
  iapply (wp_lefts I K c Q (fwdSlabs 1) (fwd_ne 1) _) $$ [H1 HO]
  · isplitr; · iexact HK
    isplitl [H1] <;> iassumption
  iintro ⟨H1, HO⟩
  iapply (wp_lefts I K c Q (fwdSlabs 2) (fwd_ne 2) _) $$ [H2 HO]
  · isplitr; · iexact HK
    isplitl [H2] <;> iassumption
  iintro ⟨H2, HO⟩
  iapply (wp_lefts I K c Q (fwdSlabs 3) (fwd_ne 3) _) $$ [H3 HO]
  · isplitr; · iexact HK
    isplitl [H3] <;> iassumption
  iintro ⟨H3, HO⟩
  iapply (wp_done c Q)
  iapply Hk
  isplitr [HO]
  · isplitl [HC]; · iexact HC
    isplitl [H0]; · iexact H0
    isplitl [H1]; · iexact H1
    isplitl [H2] <;> iassumption
  iexact HO

/-! ## The staged windows -/

abbrev pts {b : Ref sig .tc} (c : Dev nD) (f : Buf (Elt F) ((c : Thread nD τ).loc b)) : sProp 𝕄 := ((c : Thread nD τ).loc b) ↦{fullShare} f

theorem hz2 : (![0, 0] : Fin 2 → Nat) = fun _ => 0 := funext fun a => by fin_cases a <;> rfl

/-- The two batches stored one after the other are the whole result block. -/
theorem out_stored (c : Dev nD) (f : S2x128x512.Idx → F .f32) :
    ((Memref.whole cc0_stg5_0 : Memref sig .tc .vmem S2x128x512 .f32).access (batchR 1)).write (Elt F)
      (((Memref.whole cc0_stg5_0 : Memref sig .tc .vmem S2x128x512 .f32).access (batchR 0)).write (Elt F) f (outAt I c 0) Finset.univ) (outAt I c 1) Finset.univ
      = result I c := by
  have hr : ∀ b : Fin 2, ((Memref.whole cc0_stg5_0 : Memref sig .tc .vmem S2x128x512 .f32).access (batchR b)).read (Elt F) (result I c) = outAt I c b := by
    intro b
    funext x
    have e : (batchR b).emb x 0 = b := Fin.ext (by show b.val + 1 * (x 0).val = b.val; have : (x 0).val < 1 := (x 0).isLt; omega)
    show outAt I c ((batchR b).emb x 0) _ = outAt I c b x
    rw [e]
    congr 1
    funext a
    fin_cases a
    · exact Fin.ext (by have : (x 0).val < 1 := (x 0).isLt; show 0 = (x 0).val; omega)
    · exact Fin.ext (by show 0 + 1 * (x 1).val = (x 1).val; omega)
    · exact Fin.ext (by show 0 + 1 * (x 2).val = (x 2).val; omega)
  have hm : ∀ (b : Fin 2) (i : S2x128x512.Idx), (i 0).val = b.val → i ∈ ((Memref.whole cc0_stg5_0 : Memref sig .tc .vmem S2x128x512 .f32).access (batchR b)).set := by
    intro b i hi
    have : i ∈ (batchR b).set := by
      rw [Rect.mem_set_unit]; intro a
      fin_cases a
      · show b.val ≤ (i 0).val ∧ (i 0).val < b.val + 1; omega
      · exact ⟨Nat.zero_le _, by have : (i 1).val < 128 := (i 1).isLt; show (i 1).val < 0 + 128; omega⟩
      · exact ⟨Nat.zero_le _, by have : (i 2).val < 512 := (i 2).isLt; show (i 2).val < 0 + 512; omega⟩
    show i ∈ ((Memref.whole cc0_stg5_0 : Memref sig .tc .vmem S2x128x512 .f32).view.slice (batchR b)).set
    rw [View.set_slice]; exact Finset.mem_map_of_mem _ this
  funext i
  by_cases h1 : (i 0).val = 1
  · exact write_eq_of_read _ _ _ _ (hr 1) i (hm 1 i h1)
  · have h0 : (i 0).val = 0 := by have : (i 0).val < 2 := (i 0).isLt; omega
    rw [View.write_of_not_mem]
    · exact write_eq_of_read _ _ _ _ (hr 0) i (hm 0 i h0)
    · intro hi
      have hi' : i ∈ (batchR 1).set := by
        have this : i ∈ ((Memref.whole cc0_stg5_0 : Memref sig .tc .vmem S2x128x512 .f32).view.slice (batchR 1)).set := hi
        rw [View.set_slice] at this
        obtain ⟨y, hy, rfl⟩ := Finset.mem_map.mp this
        exact hy
      have := (Rect.mem_set_unit.mp hi' 0).1
      have : 1 ≤ (i 0).val := this
      omega

/-! ## Collecting and dealing out -/

/-- The signals' tokens and the rows they hand over. -/
theorem sig_intro (c : Dev nD) :
    iprop((bigSep Finset.univ fun b : Fin 6 => dutyTok ER (barCell (peer b c)) 0 b) ∗ (bigSep slabs fun s => loose 0 (128 * s.val) 128 c) ∗ (bigSep slabs fun s => loose 1 (128 * s.val) 128 c))
      ⊢ (bigSepL sigs (SigIn c) : sProp 𝕄) := by
  have e : (iprop((bigSep Finset.univ fun b : Fin 6 => dutyTok ER (barCell (peer b c)) 0 b)
        ∗ (bigSep slabs fun s => iprop(loose 0 (128 * s.val) 128 c ∗ loose 1 (128 * s.val) 128 c))) : sProp 𝕄) = bigSepL sigs (SigIn c) := by
    rw [← bigSep_univ_eq_bigSepL sigs (by decide) (by decide),
      show bigSep slabs (fun s => iprop(loose 0 (128 * s.val) 128 c ∗ loose 1 (128 * s.val) 128 c)) = bigSep (Finset.univ : Finset (Fin 6)) (fun b => bigSep (slabsOf b) fun s => (iprop(loose 0 (128 * s.val) 128 c ∗ loose 1 (128 * s.val) 128 c) : sProp 𝕄)) from by
        rw [grants_all]; exact BI.bigSep_fiberwise slabs grant _, ← bigSep_sep']
    rfl
  rw [← e, bigSep_sep']

theorem pres_all (c : Dev nD) : iprop(bigSep slabs (SendTok c) ∗ bigSep slabs (SendDst c))
    ⊢ (iprop(Pres c colSlabs ∗ Pres c (fwdSlabs 0) ∗ bigSepL [1, 2, 3] fun z => Pres c (fwdSlabs z)) : sProp 𝕄) := by
  rw [slabs_sent, slabs_sent, show (bigSepL [1, 2, 3] fun z => Pres c (fwdSlabs z) : sProp 𝕄) = iprop(Pres c (fwdSlabs 1) ∗ Pres c (fwdSlabs 2) ∗ Pres c (fwdSlabs 3)) from rfl]
  unfold Pres
  iintro ⟨⟨T, T0, T1, T2, T3⟩, D, D0, D1, D2, D3⟩
  isplitl [T D]
  · isplitl [T] <;> iassumption
  isplitl [T0 D0]
  · isplitl [T0] <;> iassumption
  isplitl [T1 D1]
  · isplitl [T1] <;> iassumption
  isplitl [T2 D2]
  · isplitl [T2] <;> iassumption
  isplitl [T3] <;> iassumption

theorem relays_in (c : Dev nD) : iprop(bigSepL [1, 2, 3] (RecvIn c) ∗ bigSepL [1, 2, 3] fun z => Pres c (fwdSlabs z)) ⊢ (bigSepL [1, 2, 3] (RelayIn c) : sProp 𝕄) := by
  rw [show (bigSepL [1, 2, 3] (RecvIn c) : sProp 𝕄) = bigSepL [1, 2, 3] (fun z => RecvIn c (colIx z)) from rfl]
  exact Entails.of_eq (bigSepL_pairs (fun z => RecvIn c (colIx z)) (fun z => Pres c (fwdSlabs z)) [1, 2, 3]).symm

theorem relays_out (c : Dev nD) : bigSepL [1, 2, 3] (RelayOut I c)
    = iprop(both I 128 384 c (shareDrop fullShare 3) ∗ bigSepL [1, 2, 3] (RecvZ c) ∗ (bigSepL (fwdSlabs 1) (SendOut c) ∗ bigSepL (fwdSlabs 2) (SendOut c) ∗ bigSepL (fwdSlabs 3) (SendOut c))) := by
  rw [show bigSepL [1, 2, 3] (RelayOut I c) = bigSepL [1, 2, 3] (fun z : Fin 4 => iprop(both I (128 * z.val) 128 c (shareDrop fullShare 3)
      ∗ (RecvZ c (colIx z) ∗ bigSepL (fwdSlabs z) (SendOut c)))) from rfl, bigSepL_pairs, bigSepL_pairs, col_rows']
  rfl

theorem sent_in (c : Dev nD) (A : Fin 16 → sProp 𝕄) (h : ∀ s, SentIn c s = iprop(A s ∗ SendOut c s)) :
    iprop(bigSep slabs A ∗ bigSepL colSlabs (SendOut c) ∗ bigSepL (fwdSlabs 0) (SendOut c) ∗ bigSepL (fwdSlabs 1) (SendOut c) ∗ bigSepL (fwdSlabs 2) (SendOut c) ∗ bigSepL (fwdSlabs 3) (SendOut c))
      ⊢ (bigSep slabs (SentIn c) : sProp 𝕄) := by
  rw [show SentIn c = fun s => iprop(A s ∗ SendOut c s) from funext h, bigSep_sep', slabs_sent (SendOut c)]

theorem bigSepL_congr' {ι : Type} {Φ Ψ : ι → sProp 𝕄} (l : List ι) (h : ∀ i ∈ l, Φ i = Ψ i) : bigSepL l Φ = bigSepL l Ψ := by
  induction l with
  | nil => rfl
  | cons i l ih => rw [bigSepL_cons', bigSepL_cons', h i List.mem_cons_self, ih fun k hk => h k (List.mem_cons_of_mem _ hk)]

/-- Everything a device reads, back whole. -/
theorem shares_back (c : Dev nD) :
    iprop((both I 0 128 c (shareDrop fullShare 6) ∗ both I 128 384 c (shareDrop fullShare 3)
        ∗ (both I (512 + 384 * 0) 384 c fullShare ∗ both I (512 + 384 * 1) 384 c fullShare ∗ both I (512 + 384 * 2) 384 c fullShare ∗ both I (512 + 384 * 3) 384 c fullShare))
      ∗ bigSep slabs (SendSrc I c)) ⊢ both I 0 2048 c fullShare := by
  have e : iprop(bigSepL [1, 2, 3] (fun z : Fin 4 => both I (128 * z.val) 128 c (shareDrop fullShare 3)) ∗ bigSepL [1, 2, 3] (fun z => bigSepL (fwdSlabs z) (SendSrc I c)))
      = both I 128 384 c fullShare := by
    rw [← bigSepL_pairs, ← col_rows']
    exact bigSepL_congr' [1, 2, 3] fun z hz => (col_toks I z (by rintro rfl; revert hz; decide) c).symm
  rw [both_all, own_toks, slabs_sent, ← e, ← col_rows']
  iintro ⟨⟨H0, H1, Hr⟩, S, S0, S1, S2, S3⟩
  isplitl [H0 S S0]
  · isplitl [H0]; · iexact H0
    isplitl [S] <;> iassumption
  isplitl [H1 S1 S2 S3]
  · isplitl [H1]; · iexact H1
    rw [show (bigSepL [1, 2, 3] fun z => bigSepL (fwdSlabs z) (SendSrc I c)) = iprop(bigSepL (fwdSlabs 1) (SendSrc I c) ∗ bigSepL (fwdSlabs 2) (SendSrc I c) ∗ bigSepL (fwdSlabs 3) (SendSrc I c)) from rfl]
    isplitl [S1]; · iexact S1
    isplitl [S2] <;> iassumption
  iexact Hr

/-! ## The whole body -/

theorem wp_dev (c : Dev nD) (Q : PUnit → sProp 𝕄) (k : Dev nD → KProg F) : WP c (k c) Q ⊢ WP c (.op .deviceId k) Q := by
  show _ ⊢ wp frame (wpE (defs₀ (F := F)) 𝒱₀ (c : Thread nD τ) none) Set.univ (.op .deviceId k) Q
  rw [wp_deviceId]

def SentAt (c : Dev nD) (s : Fin 16) : sProp 𝕄 := iprop(atPos ER (sendCell 0 s c) 0 ∅ 0 ∗ atPos ER (sendCell 1 s c) 0 ∅ 0)

/-- What the launch deals a device for the protocol. -/
def Dealt (c : Dev nD) : sProp 𝕄 :=
  iprop((bigSep Finset.univ fun b : Fin 6 => dutyTok ER (barCell (peer b c)) 0 b) ∗ (atPos ER (barCell c) 0 ∅ 0 ∗ cred (tallyAt (barCell c) () 6))
    ∗ bigSep slabs (SendTok c) ∗ bigSep slabs (SentAt c) ∗ bigSep slabs (RecvIn c))
/-- What a device is left with of it: its semaphores, all at zero. -/
def Zeros (c : Dev nD) : sProp 𝕄 := iprop(semVal (barCell c) 0 ∗ bigSep slabs (RecvZ c) ∗ bigSep slabs (SentZ c))
def Scratch (c : Dev nD) : sProp 𝕄 := iprop(loose 0 0 2048 c ∗ loose 1 0 2048 c)
/-- The staged windows, the last at `o`. -/
def Staged (c : Dev nD) (o : S2x128x512.Idx → F .f32) : sProp 𝕄 :=
  iprop(pts (b := cc0_stg0_0) c (I.x c) ∗ pts (b := cc0_stg1_0) c (I.wq c) ∗ pts (b := cc0_stg2_0) c (I.wk c) ∗ pts (b := cc0_stg3_0) c (I.wv c)
    ∗ pts (b := cc0_stg4_0) c (I.wo c) ∗ pts (b := cc0_stg5_0) c o)

/-- A device's own rows stored. -/
theorem wp_fill (c : Dev nD) (Q : PUnit → sProp 𝕄) (k : KProg F) :
    iprop(loose 0 0 128 c ∗ loose 1 0 128 c) ⊢ iprop((both I 0 128 c fullShare -∗ WP c k Q)
      -∗ WP c (own 0 (kHalf I c 0) (vHalf I c 0) <| own 1 (kHalf I c 1) (vHalf I c 1) k) Q) := wp_own I c Q k

/-- The body from where its inputs are loaded. -/
theorem wp_tail (c : Dev nD) (o : S2x128x512.Idx → F .f32) (Q : PUnit → sProp 𝕄) (wq wk wv : Vec F S512x256 .bf16) (wo : Vec F S256x512 .bf16) (x0 x1 : Vec F S1x128x512 .bf16)
    (hwq : wq = I.wq c) (hwk : wk = I.wk c) (hwv : wv = I.wv c) (hwo : wo = I.wo c) (hx0 : x0 = batchOf (I.x c) 0) (hx1 : x1 = batchOf (I.x c) 1) :
    iprop(records I K ∗ (loose 0 0 128 c ∗ loose 1 0 128 c) ∗ (bigSep slabs (SendTok c) ∗ bigSep slabs (SendDst c)) ∗ bigSep slabs (SentAt c)
        ∗ bigSep slabs (RecvIn c) ∗ pts (b := cc0_stg5_0) c o ∗ owing c (owedS c order))
      ⊢ iprop(((bigSep slabs (RecvZ c) ∗ bigSep slabs (SentZ c) ∗ (loose 0 0 2048 c ∗ loose 1 0 2048 c) ∗ pts (b := cc0_stg5_0) c (result I c) ∗ owing c 0) -∗ Q ⟨⟩)
          -∗ WP c (own 0 (keyBlk c x0 wk) (valBlk x0 wv) <| own 1 (keyBlk c x1 wk) (valBlk x1 wv) <| comm c <| attend (queries c wq x0 x1) fun st =>
            outp (Memref.whole cc0_stg5_0) 0 (outBlk wo (st 0) (st 1) (st 2) (st 3)) <| outp (Memref.whole cc0_stg5_0) 1 (outBlk wo (st 4) (st 5) (st 6) (st 7)) finish) Q) := by
  subst hwq hwk hwv hwo hx0 hx1
  rw [show queries c (I.wq c) (batchOf (I.x c) 0) (batchOf (I.x c) 1) = qAll I c from rfl,
    show keyBlk c (batchOf (I.x c) 0) (I.wk c) = kHalf I c 0 from rfl, show keyBlk c (batchOf (I.x c) 1) (I.wk c) = kHalf I c 1 from rfl,
    show valBlk (batchOf (I.x c) 0) (I.wv c) = vHalf I c 0 from rfl, show valBlk (batchOf (I.x c) 1) (I.wv c) = vHalf I c 1 from rfl, slabs_awaited (RecvIn c)]
  unfold outp
  iintro ⟨#HK, H0, Htok, Hsat, ⟨Hr, Hrg⟩, Ho, HO⟩ Hk
  iapply (wp_fill I c Q _) $$ H0
  iintro H0
  ihave HP := (pres_all c) $$ Htok
  icases HP with ⟨HP, HP0, HPs⟩
  ihave HR := (relays_in c) $$ [Hr HPs]
  · isplitl [Hr] <;> iassumption
  iapply (wp_comm I K c Q _) $$ [H0 HP HP0 HR HO]
  · isplitr; · iexact HK
    isplitl [H0]; · iexact H0
    isplitl [HP]; · iexact HP
    isplitl [HP0]; · iexact HP0
    isplitl [HR] <;> iassumption
  iintro ⟨H0, HS, HS0, HR, HO⟩
  ihave HR := (Entails.of_eq (relays_out I c)) $$ HR
  icases HR with ⟨H1, Hz, HSs⟩
  iapply (wp_attend I K c Q _) $$ [H0 H1 Hrg HO]
  · isplitr; · iexact HK
    isplitl [H0]; · iexact H0
    isplitl [H1]; · iexact H1
    isplitl [Hrg] <;> iassumption
  iintro ⟨H0, H1, Hb, Hzs, HO⟩
  iapply (wp_load 𝒱₀ (c : Thread nD τ) none Set.univ (m := Memref.whole cc0_stg5_0) (r := (batchR 0).toLoadRect) (Finset.subset_univ _)) $$ Ho; iintro Ho
  iapply (wp_store 𝒱₀ (c : Thread nD τ) none Set.univ (m := Memref.whole cc0_stg5_0) (r := batchR 0) (Finset.subset_univ _)) $$ Ho; iintro Ho
  iapply (wp_load 𝒱₀ (c : Thread nD τ) none Set.univ (m := Memref.whole cc0_stg5_0) (r := (batchR 1).toLoadRect) (Finset.subset_univ _)) $$ Ho; iintro Ho
  iapply (wp_store 𝒱₀ (c : Thread nD τ) none Set.univ (m := Memref.whole cc0_stg5_0) (r := batchR 1) (Finset.subset_univ _)) $$ Ho; iintro Ho
  ihave HS := (sent_in c (SentAt c) (fun _ => rfl)) $$ [Hsat HS HS0 HSs]
  · isplitl [Hsat]; · iexact Hsat
    isplitl [HS]; · iexact HS
    isplitl [HS0]; · iexact HS0
    iexact HSs
  iapply (wp_finish I K c Q) $$ [HS HO]
  · isplitr; · iexact HK
    isplitl [HS] <;> iassumption
  iintro ⟨HS, HO⟩
  ihave HS := (Entails.of_eq (show bigSep slabs (SentOut I c) = iprop(bigSep slabs (SendSrc I c) ∗ bigSep slabs (SentZ c)) from bigSep_sep' _ _ _)) $$ HS
  icases HS with ⟨HS, Hsz⟩
  ihave Hall := (shares_back I c) $$ [H0 H1 Hb HS]
  · isplitr [HS]
    · isplitl [H0]; · iexact H0
      isplitl [H1] <;> iassumption
    iexact HS
  iapply Hk
  isplitl [Hz Hzs]
  · rw [slabs_awaited (RecvZ c)]
    isplitl [Hz] <;> iassumption
  isplitl [Hsz]; · iexact Hsz
  isplitl [Hall]
  · iapply (both_loose I 0 2048 c); iexact Hall
  isplitl [Ho]
  · iapply (Entails.of_eq (congrArg (fun f => pts (b := cc0_stg5_0) c f) (out_stored I c o))); iexact Ho
  iexact HO

set_option maxHeartbeats 1000000 in
theorem wp_body (c : Dev nD) (o : S2x128x512.Idx → F .f32) (Q : PUnit → sProp 𝕄) :
    iprop(records I K ∗ Dealt c ∗ Scratch c ∗ Staged I c o ∗ owing c (O₀ c))
      ⊢ iprop(((Zeros c ∗ Scratch c ∗ Staged I c (result I c) ∗ owing c 0) -∗ Q ⟨⟩)
          -∗ WP c (body (Memref.whole cc0_stg0_0) (Memref.whole cc0_stg1_0) (Memref.whole cc0_stg2_0) (Memref.whole cc0_stg3_0) (Memref.whole cc0_stg4_0) (Memref.whole cc0_stg5_0)) Q) := by
  unfold Dealt Scratch Staged Zeros body outp
  iintro ⟨#HK, ⟨Hbt, ⟨Hba, Hbc⟩, Htok, Hsat, Hrin⟩, ⟨Hl0, Hl1⟩, ⟨Hx, Hwq, Hwk, Hwv, Hwo, Ho⟩, HO⟩ Hk
  ihave Hl0 := (loose_slabs 0 c) $$ Hl0
  icases Hl0 with ⟨H00, Hl0⟩
  ihave Hl1 := (loose_slabs 1 c) $$ Hl1
  icases Hl1 with ⟨H10, Hl1⟩
  ihave Hsig := (sig_intro c) $$ [Hbt Hl0 Hl1]
  · isplitl [Hbt]; · iexact Hbt
    isplitl [Hl0] <;> iassumption
  iapply (wp_dev c Q)
  -- the barrier
  iapply (wp_sigs I K c (owedS c order) Q _) $$ [Hsig HO]
  · isplitr; · iexact HK
    isplitl [Hsig]; · iexact Hsig
    iexact HO
  iintro HO
  iapply (wp_bar I K c (owedS c order) (owedS_above c 1 order lv_order) Q _) $$ [Hba Hbc HO]
  · isplitr; · iexact HK
    isplitl [Hba]; · iexact Hba
    isplitl [Hbc] <;> iassumption
  iintro ⟨Hdst, Hbz, HO⟩
  -- the inputs
  iapply (wp_load 𝒱₀ (c : Thread nD τ) none Set.univ (m := Memref.whole cc0_stg1_0) (r := wR.toLoadRect) (Finset.subset_univ _)) $$ Hwq; iintro Hwq
  iapply (wp_load 𝒱₀ (c : Thread nD τ) none Set.univ (m := Memref.whole cc0_stg2_0) (r := wR.toLoadRect) (Finset.subset_univ _)) $$ Hwk; iintro Hwk
  iapply (wp_load 𝒱₀ (c : Thread nD τ) none Set.univ (m := Memref.whole cc0_stg3_0) (r := wR.toLoadRect) (Finset.subset_univ _)) $$ Hwv; iintro Hwv
  iapply (wp_load 𝒱₀ (c : Thread nD τ) none Set.univ (m := Memref.whole cc0_stg4_0) (r := woR.toLoadRect) (Finset.subset_univ _)) $$ Hwo; iintro Hwo
  iapply (wp_load 𝒱₀ (c : Thread nD τ) none Set.univ (m := Memref.whole cc0_stg0_0) (r := (batchR 0).toLoadRect) (Finset.subset_univ _)) $$ Hx; iintro Hx
  iapply (wp_load 𝒱₀ (c : Thread nD τ) none Set.univ (m := Memref.whole cc0_stg0_0) (r := (batchR 1).toLoadRect) (Finset.subset_univ _)) $$ Hx; iintro Hx
  iapply (wp_tail I K c o Q _ _ _ _ _ _ (Memref.readAt_unit_zero (Elt F) cc0_stg1_0 hz2 _ _) (Memref.readAt_unit_zero (Elt F) cc0_stg2_0 hz2 _ _)
    (Memref.readAt_unit_zero (Elt F) cc0_stg3_0 hz2 _ _) (Memref.readAt_unit_zero (Elt F) cc0_stg4_0 hz2 _ _) rfl rfl) $$ [H00 H10 Htok Hdst Hsat Hrin Ho HO]
  · isplitr; · iexact HK
    isplitl [H00 H10]
    · isplitl [H00] <;> iassumption
    isplitl [Htok Hdst]
    · isplitl [Htok] <;> iassumption
    isplitl [Hsat]; · iexact Hsat
    isplitl [Hrin]; · iexact Hrin
    isplitl [Ho] <;> iassumption
  iintro ⟨Hrz, Hsz, Hl, Ho, HO⟩
  iapply Hk
  isplitl [Hbz Hrz Hsz]
  · isplitl [Hbz]; · iexact Hbz
    isplitl [Hrz] <;> iassumption
  isplitl [Hl]; · iexact Hl
  isplitr [HO]
  · isplitl [Hx]; · iexact Hx
    isplitl [Hwq]; · iexact Hwq
    isplitl [Hwk]; · iexact Hwk
    isplitl [Hwv]; · iexact Hwv
    isplitl [Hwo]; · iexact Hwo
    iexact Ho
  iexact HO

end Cert.KernelIdeal.Core
end
-- ==== Proof.Core.Deal.lean ====
/- Dealing the protocol out at launch: the cells as one family, the tokens carried to the devices that pay with them, and
   the credit each device starts with. -/
module

public import proofs.«01_k».proof.Proof.Core.Run
public import Idealize.ShloMosaic.Lib.Pipeline.Launch

@[expose] public section

noncomputable section

namespace Cert.KernelIdeal.Core

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ UU ℕ

/-! ## Families over the cells -/

/-- The slabs that receive a copy, counted. -/
def succs : Fin 15 ↪ Fin 16 := ⟨Fin.succ, Fin.succ_injective 15⟩
theorem slabs_eq : slabs = Finset.univ.map succs := by decide

omit [FloatOps F] [Named F] in
/-- Over keys and values and every slab, slab by slab. -/
theorem over_slabs (Φ : Fin 2 → Fin 16 → sProp 𝕄) :
    (bigSep Finset.univ fun x : X => Φ x.1 x.2.succ) = bigSep slabs fun s => iprop(Φ 0 s ∗ Φ 1 s) := by
  rw [bigSep_univ_prod, bigSep_univ_two, slabs_eq, bigSep_map, ← bigSep_sep']; rfl

omit [FloatOps F] [Named F] in
/-- Over a device's cells, kind by kind. -/
theorem over_cells (Φ : J → sProp 𝕄) :
    bigSep Finset.univ Φ = iprop(Φ (.inl ()) ∗ (bigSep Finset.univ fun x : X => Φ (.inr (.inl x))) ∗ bigSep Finset.univ fun x : X => Φ (.inr (.inr x))) := by
  rw [bigSep_univ_sum, bigSep_univ_sum, Finset.univ_unique, bigSep_singleton]; rfl

omit [FloatOps F] [Named F] in
theorem bigSep_turn {ι κ : Type} [Fintype ι] [Fintype κ] (Φ : κ → ι → sProp 𝕄) :
    (bigSep Finset.univ fun c => bigSep Finset.univ fun i => Φ c i) = bigSep Finset.univ fun i => bigSep Finset.univ fun c => Φ c i := by
  rw [← bigSep_univ_prod (fun x : κ × ι => Φ x.1 x.2), ← bigSep_univ_prod (fun x : ι × κ => Φ x.2 x.1)]
  exact bigSep_univ_equiv (Equiv.prodComm ι κ) _

omit [FloatOps F] [Named F] in
/-- A family over the devices and something else, each member renamed over the devices its own way. -/
theorem bigSep_around {ι : Type} [Fintype ι] (e : ι → Dev nD ≃ Dev nD) (Φ : ι → Dev nD → sProp 𝕄) :
    (bigSep Finset.univ fun c => bigSep Finset.univ fun i => Φ i c) = bigSep Finset.univ fun c => bigSep Finset.univ fun i => Φ i (e i c) := by
  rw [bigSep_turn fun c i => Φ i c, bigSep_turn fun c i => Φ i (e i c)]
  exact bigSep_congr fun i _ => bigSep_univ_equiv (e i) (Φ i)

theorem csem_injective : Function.Injective csem := by decide +kernel
theorem kcell_injective : Function.Injective (kcell : Dev nD × J → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def allCells : Finset (GSem nD τ sig) := Finset.univ.map ⟨kcell, kcell_injective⟩

/-! ## Tokens -/

/-- A device's own cells' duties: six of its barrier's, one of every other. -/
abbrev T : Type := Fin 6 ⊕ (X ⊕ X)
def tokAt : T → J × Fin 6
  | .inl b => (.inl (), b)
  | .inr k => (.inr k, 0)
theorem tokAt_injective : Function.Injective tokAt := by decide +kernel
def tokOf (cj : Dev nD × T) : GSem nD τ sig × ℕ × Fin 6 := (kcell (cj.1, (tokAt cj.2).1), 0, (tokAt cj.2).2)
theorem tokOf_injective : Function.Injective tokOf := by
  rintro ⟨c, j⟩ ⟨c', j'⟩ h
  have h1 := kcell_injective (congrArg Prod.fst h)
  have h2 : (tokAt j).2 = (tokAt j').2 := congrArg (fun x : GSem nD τ sig × ℕ × Fin 6 => x.2.2) h
  have h3 : j = j' := tokAt_injective (Prod.ext (congrArg Prod.snd h1) h2)
  rw [show c = c' from congrArg Prod.fst h1, h3]
def allToks : Finset (GSem nD τ sig × ℕ × Fin 6) := Finset.univ.map ⟨tokOf, tokOf_injective⟩

/-- The token of a duty of one of device `c`'s cells. -/
def tok (j : T) (c : Dev nD) : sProp 𝕄 := dutyTok ER (kcell (c, (tokAt j).1)) 0 (tokAt j).2
/-- Who pays a duty: as many signals or copies away as it takes. -/
def payer : T → Dev nD ≃ Dev nD
  | .inl b => peerEquiv b
  | .inr (.inl x) => Equiv.refl _
  | .inr (.inr x) => peerEquiv (hop x.2.succ)

/-- The tokens device `c` pays with. -/
def payToks (c : Dev nD) : sProp 𝕄 := iprop((bigSep Finset.univ fun b : Fin 6 => dutyTok ER (barCell (peer b c)) 0 b) ∗ bigSep slabs (SendTok c))

omit [FloatOps F] [Named F] in
theorem payToks_eq (c : Dev nD) : (bigSep Finset.univ fun j : T => tok (F := F) j (payer j c)) = payToks c := by
  have h : bigSep slabs (SendTok (F := F) c) = iprop((bigSep Finset.univ fun x : X => dutyTok ER (sendCell x.1 x.2.succ c) 0 0)
      ∗ bigSep Finset.univ fun x : X => dutyTok ER (recvCell x.1 x.2.succ (peer (hop x.2.succ) c)) 0 0) := by
    rw [← bigSep_sep', over_slabs fun t s => iprop(dutyTok ER (sendCell t s c) 0 0 ∗ dutyTok ER (recvCell t s (peer (hop s) c)) 0 0)]
    rfl
  unfold payToks
  rw [h, bigSep_univ_sum, bigSep_univ_sum]
  rfl

omit [FloatOps F] [Named F] in
/-- The tokens of every device's cells, at the devices that pay with them. -/
theorem toks_around : (bigSep Finset.univ fun c : Dev nD => bigSep Finset.univ fun j : T => tok (F := F) j c) = bigSep Finset.univ payToks := by
  rw [bigSep_around payer tok]; exact bigSep_congr fun c _ => payToks_eq c

/-! ## Credit -/

theorem sum_around (b : Fin 6) (c : Dev nD) (n : ℕ) : ∑ d : Dev nD, (if c = peer b d then n else 0) = n := by
  rw [show (∑ d : Dev nD, (if c = peer b d then n else 0)) = ∑ d : Dev nD, if c = d then n else 0 from
    Equiv.sum_comp (peerEquiv b) (fun d => if c = d then n else 0), Finset.sum_ite_eq, if_pos (Finset.mem_univ c)]

theorem tc_cell {c c' : Dev nD} {sm sm' : SemLoc sig} (h : (((c : Thread nD τ), sm) : GSem nD τ sig) = ((c' : Thread nD τ), sm')) : c = c' ∧ sm = sm' :=
  ⟨congrArg (fun g : GSem nD τ sig => g.1.1) h, congrArg Prod.snd h⟩

theorem recv_inj {t t' : Fin 2} {s s' : Fin 16} (hs : s ≠ 0) (hs' : s' ≠ 0) (h : (SemLoc.dma (recvSem t s) : SemLoc sig) = .dma (recvSem t' s')) : t = t' ∧ s = s' := by
  have h' := congrArg decode (SemLoc.dma.inj h)
  rw [decode_recv t s hs, decode_recv t' s' hs'] at h'
  exact ⟨congrArg (fun x => x.2.1) h', congrArg (fun x => x.2.2) h'⟩

theorem tally_bar (b : Fin 6) (d c : Dev nD) : tallyAt (Ix := Unit) (barCell (peer b d)) () 1 (barCell c) () = if c = peer b d then 1 else 0 := by
  rw [tallyAt_apply]
  by_cases h : c = peer b d
  · rw [if_pos h, if_pos ⟨h ▸ rfl, rfl⟩]
  · rw [if_neg h, if_neg fun hh => h (tc_cell hh.1).1]
theorem tally_bar_recv (b : Fin 6) (d c : Dev nD) (t : Fin 2) (s : Fin 16) : tallyAt (Ix := Unit) (barCell (peer b d)) () 1 (recvCell t s c) () = 0 := by
  rw [tallyAt_apply]; exact if_neg fun h => by cases (tc_cell h.1).2
theorem tally_recv_bar (d c : Dev nD) (t : Fin 2) (s : Fin 16) (n : ℕ) : tallyAt (Ix := Unit) (recvCell t s d) () n (barCell c) () = 0 := by
  rw [tallyAt_apply]; exact if_neg fun h => by cases (tc_cell h.1).2
theorem tally_recv (b : Fin 6) (d c : Dev nD) (t t' : Fin 2) (s s' : Fin 16) (hs : s ≠ 0) (hs' : s' ≠ 0) (n : ℕ) :
    tallyAt (Ix := Unit) (recvCell t' s' (peer b d)) () n (recvCell t s c) () = if t = t' ∧ s = s' then (if c = peer b d then n else 0) else 0 := by
  rw [tallyAt_apply]
  by_cases h : t = t' ∧ s = s'
  · obtain ⟨rfl, rfl⟩ := h
    rw [if_pos (⟨rfl, rfl⟩ : t = t ∧ s = s)]
    by_cases h : c = peer b d
    · subst h; rw [if_pos (⟨rfl, rfl⟩ : _ = _ ∧ () = ()), if_pos rfl]
    · rw [if_neg h, if_neg fun hh => h (tc_cell hh.1).1]
  · rw [if_neg h, if_neg fun hh => h (recv_inj hs hs' (tc_cell hh.1).2)]

/-- What all the devices' copies owe a landing cell. -/
theorem sum_owedS (t : Fin 2) (s : Fin 16) (hs : s ≠ 0) (c : Dev nD) : ∀ l : List (Fin 16), (∀ s' ∈ l, s' ≠ 0) →
    ∑ d : Dev nD, owedS d l (recvCell t s c) () = l.count s * unitsOf t
  | [], _ => by rw [List.count_nil, Nat.zero_mul]; exact Finset.sum_eq_zero fun d _ => rfl
  | s' :: l, h => by
    have hs' := h s' List.mem_cons_self
    have e (d : Dev nD) : owedS d (s' :: l) (recvCell t s c) () = owedS d l (recvCell t s c) ()
        + (if s = s' then (if c = peer (hop s') d then unitsOf t else 0) else 0) := by
      show (owedS d l + tallyAt (recvCell 1 s' (peer (hop s') d)) () (unitsOf 1) + tallyAt (recvCell 0 s' (peer (hop s') d)) () (unitsOf 0)) (recvCell t s c) () = _
      rw [Pi.add_apply, Finsupp.add_apply, Pi.add_apply, Finsupp.add_apply, tally_recv _ _ _ _ _ _ _ hs hs', tally_recv _ _ _ _ _ _ _ hs hs', Nat.add_assoc]
      congr 1
      fin_cases t <;> simp
    rw [Finset.sum_congr rfl fun d _ => e d, Finset.sum_add_distrib, sum_owedS t s hs c l fun x hx => h x (List.mem_cons_of_mem _ hx), List.count_cons, Nat.add_mul]
    congr 1
    by_cases hh : s = s'
    · subst hh
      rw [Finset.sum_congr rfl fun d _ => if_pos rfl, sum_around, beq_self_eq_true, if_pos rfl, Nat.one_mul]
    · rw [Finset.sum_congr rfl fun d _ => if_neg hh, Finset.sum_const_zero, if_neg (by simpa using fun h => hh h.symm), Nat.zero_mul]

theorem owedS_bar (d c : Dev nD) : ∀ l : List (Fin 16), owedS d l (barCell c) () = 0
  | [] => rfl
  | s :: l => by
    show (owedS d l + tallyAt (recvCell 1 s (peer (hop s) d)) () (unitsOf 1) + tallyAt (recvCell 0 s (peer (hop s) d)) () (unitsOf 0)) (barCell c) () = _
    rw [Pi.add_apply, Finsupp.add_apply, Pi.add_apply, Finsupp.add_apply, tally_recv_bar, tally_recv_bar, owedS_bar d c l]

theorem owedB_recv (d c : Dev nD) (O : CellTallies nD τ sig Unit) (t : Fin 2) (s : Fin 16) : ∀ l : List (Fin 6), owedB d O l (recvCell t s c) () = O (recvCell t s c) ()
  | [] => rfl
  | b :: l => by
    show (owedB d O l + tallyAt (barCell (peer b d)) () 1) (recvCell t s c) () = _
    rw [Pi.add_apply, Finsupp.add_apply, tally_bar_recv, owedB_recv d c O t s l, Nat.add_zero]

/-- What all the devices' signals owe a barrier cell. -/
theorem sum_owedB (c : Dev nD) (O : Dev nD → CellTallies nD τ sig Unit) (hO : ∀ d, O d (barCell c) () = 0) : ∀ l : List (Fin 6),
    ∑ d : Dev nD, owedB d (O d) l (barCell c) () = l.length
  | [] => Finset.sum_eq_zero fun d _ => hO d
  | b :: l => by
    have e (d : Dev nD) : owedB d (O d) (b :: l) (barCell c) () = owedB d (O d) l (barCell c) () + (if c = peer b d then 1 else 0) := by
      show (owedB d (O d) l + tallyAt (barCell (peer b d)) () 1) (barCell c) () = _
      rw [Pi.add_apply, Finsupp.add_apply, tally_bar]
    rw [Finset.sum_congr rfl fun d _ => e d, Finset.sum_add_distrib, sum_owedB c O hO l, sum_around, List.length_cons]

theorem order_count : ∀ s : Fin 16, s ≠ 0 → order.count s = 1 := by decide +kernel
theorem order_ne : ∀ s ∈ order, s ≠ 0 := by decide +kernel

omit [FloatOps F] [Named F] in
theorem launch_bar (c : Dev nD) : tallyOn (barCell c) (launchCredit (Pipeline.owing O₀) 0 (barCell c)) = (tallyAt (barCell c) () 6 : CellTallies nD τ sig Unit) := by
  unfold tallyAt; refine congrArg _ (Finsupp.ext fun u => ?_); cases u
  rw [Pipeline.launchCredit_owing, Finsupp.single_eq_same]
  exact sum_owedB c (fun d => owedS d order) (fun d => owedS_bar d c order) sigs

omit [FloatOps F] [Named F] in
theorem launch_recv (t : Fin 2) (s : Fin 16) (hs : s ≠ 0) (c : Dev nD) :
    tallyOn (recvCell t s c) (launchCredit (Pipeline.owing O₀) 0 (recvCell t s c)) = (tallyAt (recvCell t s c) () (unitsOf t) : CellTallies nD τ sig Unit) := by
  unfold tallyAt; refine congrArg _ (Finsupp.ext fun u => ?_); cases u
  rw [Pipeline.launchCredit_owing, Finsupp.single_eq_same, show (∑ d : Dev nD, O₀ d (recvCell t s c) ()) = ∑ d : Dev nD, owedS d order (recvCell t s c) () from
    Finset.sum_congr rfl fun d _ => owedB_recv d c (owedS d order) t s sigs, sum_owedS t s hs c order order_ne, order_count s hs, Nat.one_mul]

/-- The cells a device starts with credit for. -/
def credAt : Unit ⊕ X → SemLoc sig
  | .inl _ => .reg barSem
  | .inr x => .dma (recvSem x.1 x.2.succ)
theorem credAt_injective : Function.Injective credAt := by decide +kernel

omit [FloatOps F] [Named F] in
theorem entails_of_eq_of_entails {P Q R : sProp 𝕄} (h : Q = R) (hp : P ⊢ Q) : P ⊢ R := h ▸ hp

omit [FloatOps F] [Named F] in
theorem creds (c : Dev nD) : (Pipeline.launchCred O₀ c : sProp 𝕄)
    ⊢ iprop(cred (tallyAt (barCell c) () 6) ∗ bigSep slabs fun s => iprop(cred (tallyAt (recvCell 0 s c) () (unitsOf 0)) ∗ cred (tallyAt (recvCell 1 s c) () (unitsOf 1)))) := by
  unfold Pipeline.launchCred
  have h := bigSep_subset (Finset.subset_univ (Finset.univ.map ⟨credAt, credAt_injective⟩))
    (Φ := fun sm : SemLoc sig => (cred (tallyOn ((c.tc : Thread nD τ), sm) (launchCredit (Pipeline.owing O₀) 0 ((c.tc : Thread nD τ), sm))) : sProp 𝕄))
  refine entails_of_eq_of_entails ?_ h
  rw [bigSep_map, bigSep_univ_sum, Finset.univ_unique, bigSep_singleton, ← over_slabs fun t s => cred (tallyAt (recvCell t s c) () (unitsOf t)),
    bigSep_congr (s := Finset.univ) fun (x : X) _ => congrArg cred (launch_recv x.1 x.2.succ (Fin.succ_ne_zero x.2) c).symm, ← launch_bar]
  rfl

end Cert.KernelIdeal.Core
end
-- ==== Proof.Core.Launch.lean ====
/- The launch: what each device starts from, and the run of the whole program. -/
module

public import proofs.«01_k».proof.Proof.Core.Deal
public import proofs.«01_k».proof.Proof.Gen.KernelIdeal.Frame
public import Idealize.ShloMosaic.Lib.Pipeline.CollectiveSegs
public import Idealize.ShloMosaic.Lib.Pipeline.Kit
public import Idealize.ShloMosaic.Lib.Tactic

@[expose] public section

noncomputable section

namespace Cert.KernelIdeal.Core

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-- The arguments, read off the memory at launch. -/
def ins : Ins F where
  x c := m ((c : Thread nD τ).loc main_arg0)
  wq c := m ((c : Thread nD τ).loc main_arg1)
  wk c := m ((c : Thread nD τ).loc main_arg2)
  wv c := m ((c : Thread nD τ).loc main_arg3)
  wo c := m ((c : Thread nD τ).loc main_arg4)

/-! ## What every device knows, and what it holds -/

def marks (I : Ins F) (K : Dev nD × J → ℕ) : sProp 𝕄 :=
  iprop((bigSep Finset.univ fun cj : Dev nD × J => cellInv ER (Rd I) (K cj) (kcell cj)) ∗ bigSep Finset.univ fun cj : Dev nD × J => reached ER (kcell cj) 0)
instance marks_persistent (I : Ins F) (K : Dev nD × J → ℕ) : BI.Persistent (marks I K) := by unfold marks; infer_instance

theorem marks_records (I : Ins F) (K : Dev nD × J → ℕ) : iprop(marks I K ∗ levAts L lv) ⊢ records I K := by
  unfold marks records
  iintro ⟨⟨HI, HR⟩, HL⟩
  isplitl [HI]; · iexact HI
  isplitl [HR] <;> iassumption

/-- A device's positions, and the tokens it pays with. -/
def linear (c : Dev nD) : sProp 𝕄 := iprop((bigSep Finset.univ fun j : J => atPos ER (kcell (c, j)) 0 ∅ 0) ∗ payToks c)
/-- What the launch deals a device: its cells' states, positions and marks, its cells' tokens. -/
def G (I : Ins F) (c : Dev nD) : sProp 𝕄 :=
  iprop((bigSep Finset.univ fun j : J => roundState ER (Rd I) (kcell (c, j)) 0)
    ∗ ((bigSep Finset.univ fun j : J => atPos ER (kcell (c, j)) 0 ∅ 0) ∗ bigSep Finset.univ fun j : J => reached ER (kcell (c, j)) 0)
    ∗ bigSep Finset.univ fun j : T => tok j c)
/-- What the global step makes of it. -/
def G' (I : Ins F) (c : Dev nD) : sProp 𝕄 := iprop(∃ K, marks I K ∗ linear c)
/-- What a device's body starts from, its scratch aside. -/
def start (I : Ins F) (c : Dev nD) : sProp 𝕄 := iprop(∃ K, records I K ∗ Dealt c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).x c
    | ⟨1, _⟩ => (ins m).wq c
    | ⟨2, _⟩ => (ins m).wk c
    | ⟨3, _⟩ => (ins m).wv c
    | ⟨4, _⟩ => (ins m).wo c
    | ⟨5, _⟩ => result (ins m) c
  Φ t := match t with
    | ⟨0, _⟩ => iprop(start (ins m) c ∗ Scratch c)
    | ⟨_ + 1, _⟩ => iprop(Zeros c ∗ Scratch c)
  q _ := fullShare
  owed t := match t with
    | ⟨0, _⟩ => O₀ c
    | ⟨_ + 1, _⟩ => 0

omit [FloatOps F] [Named F] in
theorem owns_whole_eq (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

/-- A staging buffer at known contents. -/
abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

/-! Every input window's one block is its whole array. -/

theorem in_whole0 (f : main_arg0.ty.Contents (Elt F)) : ((cfg0.win (0 : Fin 6)).blk t0_0).view.read (Elt F) f = f :=
  Memref.read_access_unit_zero (Elt F) main_arg0 (funext fun a => Nat.zero_mul _) _ _
theorem in_whole1 (f : main_arg1.ty.Contents (Elt F)) : ((cfg0.win (1 : Fin 6)).blk t0_0).view.read (Elt F) f = f :=
  Memref.read_access_unit_zero (Elt F) main_arg1 (funext fun a => Nat.zero_mul _) _ _
theorem in_whole2 (f : main_arg2.ty.Contents (Elt F)) : ((cfg0.win (2 : Fin 6)).blk t0_0).view.read (Elt F) f = f :=
  Memref.read_access_unit_zero (Elt F) main_arg2 (funext fun a => Nat.zero_mul _) _ _
theorem in_whole3 (f : main_arg3.ty.Contents (Elt F)) : ((cfg0.win (3 : Fin 6)).blk t0_0).view.read (Elt F) f = f :=
  Memref.read_access_unit_zero (Elt F) main_arg3 (funext fun a => Nat.zero_mul _) _ _
theorem in_whole4 (f : main_arg4.ty.Contents (Elt F)) : ((cfg0.win (4 : Fin 6)).blk t0_0).view.read (Elt F) f = f :=
  Memref.read_access_unit_zero (Elt F) main_arg4 (funext fun a => Nat.zero_mul _) _ _

theorem before_in (c : Dev nD) (w : Fin 6) (hw : (cfg0.win w).fetch t0_0 = true) (d) : (dats m ρ 0 c).before w t0_0 d = (dats m ρ 0 c).fetched w t0_0 d := by
  unfold Dat.before; rw [if_pos hw]

set_option maxRecDepth 16000 in
def bodyPre (c : Dev nD) : sProp 𝕄 :=
  iprop((start (ins m) c ∗ Scratch c) ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

set_option maxRecDepth 16000 in
def bodyPost (c : Dev nD) : sProp 𝕄 :=
  iprop((Zeros c ∗ Scratch c) ∗ (dats m ρ 0 c).owesAt () t0_0.succ
    ∗ stg c cc0_stg0_0 ((ins m).x c) ∗ stg c cc0_stg1_0 ((ins m).wq c) ∗ stg c cc0_stg2_0 ((ins m).wk c) ∗ stg c cc0_stg3_0 ((ins m).wv c)
    ∗ stg c cc0_stg4_0 ((ins m).wo c) ∗ stg c cc0_stg5_0 (result (ins m) c))

theorem stg_in (c : Dev nD) (b : Ref sig .tc) {D : Type} (g : D → b.ty.Contents (Elt F)) (f : b.ty.Contents (Elt F)) (h : ∀ d, g d = f) :
    iprop(∃ d, stg c b (g d)) ⊢ (((c : Thread nD τ).loc b) ↦{fullShare} f : sProp 𝕄) := by
  iintro ⟨%d, %g', %hg, H⟩
  subst hg
  rw [h d]
  iexact H
theorem stg_out (c : Dev nD) (b : Ref sig .tc) (f : b.ty.Contents (Elt F)) : (((c : Thread nD τ).loc b) ↦{fullShare} f : sProp 𝕄) ⊢ stg c b f := by
  iintro H; iexists f; isplitr; · ipureintro; rfl
  iexact H

set_option maxRecDepth 16000 in
theorem body_pre (c : Dev nD) : bodyPre m ρ c ⊢ iprop(∃ K o, records (ins m) K ∗ Dealt c ∗ Scratch c ∗ Staged (ins m) c o ∗ owing c (O₀ c)) := by
  unfold bodyPre start Staged owing Dat.owesAt Pipeline.owesWithin
  iintro ⟨⟨⟨%K, HK, HD⟩, HS⟩, ⟨%W, -, HO⟩, H0, H1, H2, H3, H4, ⟨%d, %o, -, H5⟩⟩
  iexists K; iexists o
  isplitl [HK]; · iexact HK
  isplitl [HD]; · iexact HD
  isplitl [HS]; · iexact HS
  isplitr [HO]
  · isplitl [H0]; · iapply (stg_in c cc0_stg0_0 _ ((ins m).x c) fun d => (before_in m ρ c 0 (fetch0_0 _) d).trans (in_whole0 ((ins m).x c))); iexact H0
    isplitl [H1]; · iapply (stg_in c cc0_stg1_0 _ ((ins m).wq c) fun d => (before_in m ρ c 1 (fetch0_1 _) d).trans (in_whole1 ((ins m).wq c))); iexact H1
    isplitl [H2]; · iapply (stg_in c cc0_stg2_0 _ ((ins m).wk c) fun d => (before_in m ρ c 2 (fetch0_2 _) d).trans (in_whole2 ((ins m).wk c))); iexact H2
    isplitl [H3]; · iapply (stg_in c cc0_stg3_0 _ ((ins m).wv c) fun d => (before_in m ρ c 3 (fetch0_3 _) d).trans (in_whole3 ((ins m).wv c))); iexact H3
    isplitl [H4]; · iapply (stg_in c cc0_stg4_0 _ ((ins m).wo c) fun d => (before_in m ρ c 4 (fetch0_4 _) d).trans (in_whole4 ((ins m).wo c))); iexact H4
    iexact H5
  iexists W; iexact HO

set_option maxRecDepth 16000 in
theorem body_post (c : Dev nD) : iprop(Zeros c ∗ Scratch c ∗ Staged (ins m) c (result (ins m) c) ∗ owing c 0) ⊢ bodyPost m ρ c := by
  unfold bodyPost Staged owing Dat.owesAt Pipeline.owesWithin
  rw [show (dats m ρ 0 c).owed t0_0.succ = 0 from rfl]
  iintro ⟨HZ, HS, ⟨H0, H1, H2, H3, H4, H5⟩, ⟨%W, HO⟩⟩
  isplitl [HZ HS]; · isplitl [HZ] <;> iassumption
  isplitl [HO]
  · iexists W
    isplitr; · ipureintro; exact fun _ _ => Or.inl trivial
    iexact HO
  isplitl [H0]; · iapply (stg_out c cc0_stg0_0 _); iexact H0
  isplitl [H1]; · iapply (stg_out c cc0_stg1_0 _); iexact H1
  isplitl [H2]; · iapply (stg_out c cc0_stg2_0 _); iexact H2
  isplitl [H3]; · iapply (stg_out c cc0_stg3_0 _); iexact H3
  isplitl [H4]; · iapply (stg_out c cc0_stg4_0 _); iexact H4
  iapply (stg_out c cc0_stg5_0 _); iexact H5

theorem body_run (c : Dev nD) : bodyPre m ρ c ⊢ WP c (body (F := F) (Memref.whole cc0_stg0_0) (Memref.whole cc0_stg1_0) (Memref.whole cc0_stg2_0) (Memref.whole cc0_stg3_0)
    (Memref.whole cc0_stg4_0) (Memref.whole cc0_stg5_0)) (fun _ => bodyPost m ρ c) := by
  iintro H
  ihave H := (body_pre m ρ c) $$ H
  icases H with ⟨%K, %o, H⟩
  iapply (wp_body (ins m) K c o fun _ => bodyPost m ρ c) $$ H
  iapply (body_post m ρ c)

set_option maxRecDepth 16000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5) (fun _ => bodyPost m ρ c)
  rw [body_eq]
  exact body_run m ρ c

/-! ## The launch -/

/-- The kernel's own semaphores. -/
def osem (x : X ⊕ X) : SemLoc sig := csem (.inr x)

theorem ownSemFacts : Pipeline.OwnSemFacts cfg0.spec osem := by decide +kernel

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

theorem fund_cells (I : Ins F) : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : J => Φ (kcell (c, k)) := by
    unfold allCells; rw [bigSep_map, bigSep_univ_prod]; rfl
  have hT : bigSep allToks (fun x => (dutyTok ER x.1 x.2.1 x.2.2 : sProp 𝕄)) = bigSep Finset.univ fun c : Dev nD => bigSep Finset.univ fun j : T => tok j c := by
    unfold allToks; rw [bigSep_map, bigSep_univ_prod]; rfl
  iintro HX
  imod (Rounds.fund ER (Rd I) allCells allToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] [Named F] in
theorem unscopedSems0_eq (c : Dev nD) : (unscopedSems0 c : sProp 𝕄) = semVal (barCell c) 0 := by
  unfold unscopedSems0; rw [bigSep_eq_bigSepL_of_eq [SemLoc.reg barSem] (by decide) (by decide)]; rfl

omit [FloatOps F] [Named F] in
/-- A device's own semaphores at zero, and the barrier's: its cells' counters. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : J => semVal (kcell (c, k)) 0 : sProp 𝕄) := by
  rw [unscopedSems0_eq, bigSep_univ_sum, Finset.univ_unique, bigSep_singleton]; rfl

omit [FloatOps F] [Named F] in
/-- A family over a device's cells, slab by slab. -/
theorem over_kcells (Ψ : GSem nD τ sig → sProp 𝕄) (c : Dev nD) : (bigSep Finset.univ fun k : J => Ψ (kcell (c, k)))
    = iprop(Ψ (barCell c) ∗ (bigSep slabs fun s => iprop(Ψ (sendCell 0 s c) ∗ Ψ (sendCell 1 s c))) ∗ bigSep slabs fun s => iprop(Ψ (recvCell 0 s c) ∗ Ψ (recvCell 1 s c))) := by
  rw [over_cells, ← over_slabs fun t s => Ψ (sendCell t s c), ← over_slabs fun t s => Ψ (recvCell t s c)]; rfl

omit [FloatOps F] [Named F] in
/-- The same, as the body leaves them. -/
theorem zeros_eq (c : Dev nD) : (bigSep Finset.univ fun k : J => semVal (kcell (c, k)) 0 : sProp 𝕄)
    = iprop(semVal (barCell c) 0 ∗ bigSep slabs (SentZ c) ∗ bigSep slabs (RecvZ c)) := by
  rw [over_kcells fun g => semVal g 0]; rfl

theorem core_alloc (I : Ins F) (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd I) κ (kcell (c, k))))
          ∗ ((bigSep Finset.univ fun j : J => atPos ER (kcell (c, j)) 0 ∅ 0) ∗ bigSep Finset.univ fun j : J => reached ER (kcell (c, j)) 0)
          ∗ bigSep Finset.univ fun j : T => tok j c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : J => semVal (kcell (c, k)) 0) ∗ bigSep Finset.univ fun k : J => roundState ER (Rd I) (kcell (c, k)) 0)
      ⊢ (|={Set.univ}=> bigSep Finset.univ fun k => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] [Named F] in
theorem bigSep_beside {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem marks_intro (I : Ins F) (K : Dev nD × J → ℕ) (c : Dev nD) : iprop(marks I K ∗ linear c) ⊢ G' I c := by
  unfold G'; iintro H; iexists K; iexact H

theorem regroup (I : Ins F) :
    (bigSep Finset.univ fun c : Dev nD => iprop((bigSep Finset.univ fun k => iprop(∃ κ : ℕ, cellInv ER (Rd I) κ (kcell (c, k))))
          ∗ ((bigSep Finset.univ fun j : J => atPos ER (kcell (c, j)) 0 ∅ 0) ∗ bigSep Finset.univ fun j : J => reached ER (kcell (c, j)) 0)
          ∗ bigSep Finset.univ fun j : T => tok j c) : sProp 𝕄)
      ⊢ bigSep Finset.univ (G' I) := by
  rw [bigSep_sep', bigSep_sep', bigSep_sep', ← bigSep_univ_prod (fun ck : Dev nD × J => iprop(∃ κ : ℕ, cellInv ER (Rd I) κ (kcell ck))),
    ← bigSep_univ_prod (fun ck : Dev nD × J => (reached ER (kcell ck) 0 : sProp 𝕄)), toks_around]
  iintro ⟨HI, ⟨Hat, #HR⟩, Htok⟩
  ihave HK := (BI.bigSep_exists_pi Finset.univ (fun (ck : Dev nD × J) (κ : ℕ) => (cellInv ER (Rd I) κ (kcell ck) : sProp 𝕄))) $$ HI
  icases HK with ⟨%K, #HI⟩
  iapply (bigSep_beside (R := marks I K) fun c _ => marks_intro I K c)
  isplitr
  · unfold marks; isplitl; · iexact HI
    iexact HR
  · iapply (Entails.of_eq (bigSep_sep' Finset.univ (fun c : Dev nD => bigSep Finset.univ fun k : J => (atPos ER (kcell (c, k)) 0 ∅ 0 : sProp 𝕄)) payToks).symm)
    isplitl [Hat] <;> iassumption

/-- The global step: every device's semaphores at once. -/
theorem glob (I : Ins F) : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ### The launch theorem's side conditions -/

theorem recv_in (c : Dev nD) : iprop((bigSep slabs fun s => iprop(atPos ER (recvCell 0 s c) 0 ∅ 0 ∗ atPos ER (recvCell 1 s c) 0 ∅ 0))
    ∗ bigSep slabs fun s => iprop(cred (tallyAt (recvCell 0 s c) () (unitsOf 0)) ∗ cred (tallyAt (recvCell 1 s c) () (unitsOf 1)))) ⊢ bigSep slabs (RecvIn (F := F) c) := by
  rw [← bigSep_sep']
  exact bigSep_mono fun s _ => by unfold RecvIn; exact Entails.of_eq (sep_middle _ _ _ _)

theorem dealt (c : Dev nD) : iprop(linear c ∗ Pipeline.launchCred O₀ c) ⊢ (Dealt c : sProp 𝕄) := by
  unfold linear payToks Dealt
  rw [over_kcells fun g => atPos ER g 0 ∅ 0]
  iintro ⟨⟨⟨Hb, Hs, Hr⟩, Htb, Hts⟩, Hcr⟩
  ihave Hc := (creds (F := F) c) $$ Hcr
  icases Hc with ⟨H1, HN⟩
  isplitl [Htb]; · iexact Htb
  isplitl [Hb H1]; · isplitl [Hb] <;> iassumption
  isplitl [Hts]; · iexact Hts
  isplitl [Hs]; · iexact Hs
  iapply (recv_in c)
  isplitl [Hr] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(start (ins m) c ∗ emp) := by
  unfold start G'
  iintro ⟨-, Hlev, Hcr, -, ⟨%K, HM, HG⟩⟩
  imodintro
  isplitl
  · iexists K
    isplitl [HM Hlev]
    · iapply (marks_records (ins m) K); isplitl [HM] <;> iassumption
    · iapply (dealt c); isplitl [HG] <;> iassumption
  · iempintro

omit [FloatOps F] [Named F] in
theorem scratch_eq (c : Dev nD) : (Scratch c : sProp 𝕄)
    = iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) := by
  unfold Scratch
  show iprop((∃ f, rows kbuf 0 2048 c fullShare f) ∗ (∃ f, rows vbuf 0 2048 c fullShare f)) = _
  unfold rows
  rw [rset_all, show (kbuf).view.setOn Finset.univ = Finset.univ from View.set_whole _, show (vbuf).view.setOn Finset.univ = Finset.univ from View.set_whole _]

theorem phi0_intro (c : Dev nD) :
    iprop(start (ins m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start (ins m) c ∗ Scratch c) from rfl, scopedRest0_eq, scratch_eq]
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(Zeros c ∗ Scratch c) from rfl, scopedRest0_eq, scratch_eq]
  unfold Zeros
  iintro ⟨⟨Hb, Hr, Hs⟩, Hscr⟩
  ihave Hz := (Entails.of_eq ((sems0_eq (F := F) c).trans (zeros_eq c)).symm) $$ [Hb Hr Hs]
  · isplitl [Hb]; · iexact Hb
    isplitl [Hs] <;> iassumption
  icases Hz with ⟨Hu, Ho⟩
  isplitl [Hu]; · iexact Hu
  isplitl [Ho] <;> iassumption

theorem above₀ (c : Dev nD) : Above 0 (O₀ c) :=
  owedB_above c 0 Nat.one_pos _ (owedS_above c 0 order fun s hs t => Nat.lt_of_succ_lt (lv_order s hs t)) sigs

theorem waits (c : Dev nD) : (levAts L lv : sProp 𝕄) ⊢ Pipeline.cellsWaits cfgs (dats m ρ) () 0 c :=
  Pipeline.cellsWaits_intro cfgs (dats m ρ) () 0 c fun w s t =>
    mayWait c _ _ (by
      have h : lvS (.dma ((cfg0.win w).sem s)) = 0 := by fin_cases w <;> fin_cases s <;> decide
      rw [h]
      rcases t with ⟨_ | _, ht⟩
      · exact above₀ c
      · exact Above.zero 0)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 32000 in
/-- From any memory with zero counters the program terminates on every fair execution, every array of every device ends at
    the computed contents, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      imod (fund_cells (ins m)) $$ HX with HG
      imodintro
      isplitl [HP] <;> iassumption)
    (hglob := glob (ins m))
    (hA := fun _ _ => rfl) (hpf := fun _ k => k.elim0)
    (X := start (ins m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array ends as it was. -/
theorem finalA_in (c : Dev nD) (w : Fin 6) (hw : (cfg0.win w).isOut = false) : finalA m ρ c w = (s₀ m ρ).mem ((cfg0.win w).arr.view.loc (c : Thread nD τ)) :=
  (dats (F := F) m ρ 0 c).arrAt_in w hw _

/-- The result array ends at the computed result. -/
theorem finalA_out (c : Dev nD) : finalA m ρ c (5 : Fin 6) = result (ins m) c := by
  have h : ((cfg0.win (5 : Fin 6)).blk t0_0).view.read (Elt F) (finalA m ρ c (5 : Fin 6)) = result (ins m) c := by
    unfold finalA
    rw [show cfg0.N = (t0_0 : Fin cfg0.N).val + 1 from rfl, (dats m ρ 0 c).arrAt_succ (5 : Fin 6) t0_0]
    rw [show (cfg0.win (5 : Fin 6)).flush t0_0 = true from flush0_5 _, if_pos rfl]
    exact View.read_write_univ _ _
  rw [← h]
  exact (Memref.read_access_unit_zero (Elt F) main_v1 (funext fun a => Nat.zero_mul _) _ _).symm

end Cert.KernelIdeal.Core
end
-- ==== Proof.Core.Frames.lean ====
/- The frames: the runs with their values dropped, and the named constant. -/
module

public import proofs.«01_k».proof.Defs
public import proofs.«01_k».proof.Proof.Gen.Kernel
public import proofs.«01_k».proof.Proof.Gen.Kernel.Skeleton
public import proofs.«01_k».proof.Proof.Gen.ReferenceIdeal
public import proofs.«01_k».proof.Proof.Gen.ReferenceIdeal.Run
public import proofs.«01_k».proof.Proof.Core.Launch

@[expose] public section

noncomputable section

namespace Cert.KernelIdeal.Core

open Idealize.ShloMosaic Idealize.SL.Sem Idealize.ShloMosaic.TcCoe

/-! ## The kernel -/

section Args
variable {F : FTy → Type} [FloatOps F] [Named F]

/-- The arrays of every run: the arguments as they were. -/
theorem args_kept (m : (ℓ : Loc nD τ sig) → Buf (Elt F) ℓ) (ρ : Dev nD → PrngReg) {r : PUnit × MemSt nD τ sig (Elt F)}
    (h : QC m ρ r) (c : Dev nD) : r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c (0 : Fin 6)).trans (finalA_in m ρ c 0 rfl), (h c (1 : Fin 6)).trans (finalA_in m ρ c 1 rfl),
    (h c (2 : Fin 6)).trans (finalA_in m ρ c 2 rfl), (h c (3 : Fin 6)).trans (finalA_in m ρ c 3 rfl),
    (h c (4 : Fin 6)).trans (finalA_in m ρ c 4 rfl)⟩

/-- Every run keeps its arguments and ends with its counters at zero. -/
theorem frame_any (m : (ℓ : Loc nD τ sig) → Buf (Elt F) ℓ) (ρ : Dev nD → PrngReg) :
    θ_run (defs (F := F)) (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨args_kept m ρ h.1, h.2⟩) (run_main m ρ)

end Args

theorem frame_pki : Cert.quiescent_KernelIdeal := fun m ρ _ => frame_any (F := Ideal) m ρ

/-- Over bit patterns the named constant is its printed bits: the first program's text is then the second's. -/
abbrev bitsNamed : Named Bits := ⟨fun _ _ {φ} b => Scalar.ofBits (F := Bits) φ b⟩

theorem calls_same : Cert.Kernel.defs₀ (F := Bits) = @defs₀ Bits _ bitsNamed _ := by
  refine congrArg Defs.onTc (funext fun l => funext fun a => ?_)
  match l, a with
  | 0, (t, s) => rfl

theorem defs_same : Cert.Kernel.defs (F := Bits) = @defs Bits _ bitsNamed _ := congrArg (Pipeline.defs pcfgs) calls_same

theorem frame_pk : Cert.quiescent_Kernel := fun m ρ _ =>
  cast (congrArg (fun D => (θ_run D (onTc (τ := τ) (Cert.Kernel.main (F := Bits))) (s₀ m ρ)) _) defs_same.symm) (@frame_any Bits _ bitsNamed m ρ)

/-! ## The reference -/

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The named constant -/

theorem preserves : Cert.preserves_Kernel_KernelIdeal :=
  IdealRules.named_const.statement Cert.KernelIdeal.κ "log_base" .f32 0x41135D8E#32 _ rfl

end Cert.KernelIdeal.Core
end
-- ==== Proof.Core.Pre.lean ====
/- The frames again where the precondition is stated, and its side conditions. -/
module

public import proofs.«01_k».proof.Proof.Core.Frames

@[expose] public section

noncomputable section

namespace Cert.KernelIdeal.Core

open Idealize.ShloMosaic Idealize.SL.Sem Idealize.ShloMosaic.TcCoe

/-! ## The preconditions' side conditions -/

theorem preFacts : Cert.Pre_finite_scores_KernelIdeal.Facts where
  bitsLt_bf16_f32 := by decide
  bcast_S_S2x128x512 := by decide
  reducesTo_S2x128x512_S_d0_1_2 := by decide
  h_S_ := by decide
  bcast_S_S512x256 := by decide
  reducesTo_S512x256_S_d0_1 := by decide

theorem preFactsR : Cert.Pre_finite_scores_ReferenceIdeal.Facts where
  bitsLt_bf16_f32 := by decide
  bcast_S_S2x2048x512 := by decide
  reducesTo_S2x2048x512_S_d0_1_2 := by decide
  h_S_ := by decide
  bcast_S_S512x256 := by decide
  reducesTo_S512x256_S_d0_1 := by decide

theorem frame_pki_pre [Cert.Pre_finite_scores_KernelIdeal.Facts] :
    Cert.quiescent_KernelIdeal_pre_finite_scores_KernelIdeal := fun m ρ _ => frame_any (F := Ideal) m ρ

theorem frame_ri_pre [Cert.Pre_finite_scores_ReferenceIdeal.Facts] :
    Cert.quiescent_ReferenceIdeal_pre_finite_scores_ReferenceIdeal := fun m ρ _ => frame_ri m ρ trivial

end Cert.KernelIdeal.Core
end
-- ==== Proof.Value.Spec.lean ====
/- Rotary attention over the reals, in closed form, and the online softmax that reaches it. -/
module

public import Idealize.ShloMosaic.Lib.Pointwise
public import Idealize.ShloMosaic.PureOps.Ideal

@[expose] public section

noncomputable section

namespace Cert.Attn

open Idealize.ShloMosaic
open scoped BigOperators

/-! ## The closed form -/

/-- The angle column `c` of position `i` is turned by. -/
def angle (i c : ℕ) : ℝ := (i : ℝ) * Real.exp (-(((2 * (c % 64 / 2) : ℕ) : ℝ) / 64) * Real.log 10000)

/-- A row with the two of each pair swapped, the first of them negated. -/
def turned (p : Fin 256 → ℝ) (c : Fin 256) : ℝ :=
  if h : c.val % 2 = 0 then -p ⟨c.val + 1, by omega⟩ else p ⟨c.val - 1, by omega⟩

/-- A row turned by its position's angles. -/
def rope (p : Fin 256 → ℝ) (i : ℕ) (c : Fin 256) : ℝ := p c * Real.cos (angle i c.val) + turned p c * Real.sin (angle i c.val)

/-- Column `d` of head `h`. -/
def col (h : Fin 4) (d : Fin 64) : Fin 256 := ⟨64 * h.val + d.val, by omega⟩

/-- The scaled score of a query row and a key row in head `h`. -/
def score (q k : Fin 256 → ℝ) (h : Fin 4) : ℝ := (∑ d : Fin 64, q (col h d) * k (col h d)) * (1 / 8)

/-- The mean of `v` with the softmax weights of `s`. -/
def mean {n : ℕ} (s : Fin n → ℝ) (v : Fin n → EReal) : EReal :=
  (∑ j, (Real.exp (s j) : EReal) * v j) * (((∑ j, Real.exp (s j))⁻¹ : ℝ) : EReal)

/-- The arrays: the tokens and the query and key weights are real. -/
structure Arrays where
  x : Fin 2 → Fin 2048 → Fin 512 → ℝ
  wq : Fin 512 → Fin 256 → ℝ
  wk : Fin 512 → Fin 256 → ℝ
  wv : Fin 512 → Fin 256 → EReal
  wo : Fin 256 → Fin 512 → EReal

namespace Arrays
variable (A : Arrays)

def lin (w : Fin 512 → Fin 256 → ℝ) (b : Fin 2) (i : Fin 2048) (c : Fin 256) : ℝ := ∑ k, A.x b i k * w k c
def query (b : Fin 2) (i : Fin 2048) : Fin 256 → ℝ := rope (A.lin A.wq b i) i.val
def key (b : Fin 2) (i : Fin 2048) : Fin 256 → ℝ := rope (A.lin A.wk b i) i.val
def value (b : Fin 2) (i : Fin 2048) (c : Fin 256) : EReal := ∑ k, (A.x b i k : EReal) * A.wv k c

/-- The attended value of column `c` at position `i`. -/
def context (b : Fin 2) (i : Fin 2048) (c : Fin 256) : EReal :=
  mean (fun j => score (A.query b i) (A.key b j) ⟨c.val / 64, by omega⟩) fun j => A.value b j c

/-- The result. -/
def out (b : Fin 2) (i : Fin 2048) (n : Fin 512) : EReal := ∑ c, A.context b i c * A.wo c n

end Arrays

/-! ## Literals -/

theorem bits_sixtyfour : Ideal.ofBits .f32 0x42800000#32 = ((64 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num
theorem bits_minus_one : Ideal.ofBits .f32 0xBF800000#32 = ((-1 : ℝ) : EReal) := by
  simp [Ideal.ofBits, Ideal.ieee, -EReal.coe_mul]; norm_num
theorem bits_base : Ideal.ofBits .f32 0x461C4000#32 = ((10000 : ℝ) : EReal) := by
  simp [Ideal.ofBits, Ideal.ieee, -EReal.coe_mul]; norm_num
theorem bits_bot : Ideal.ofBits .f32 0xFF800000#32 = ⊥ := by simp [Ideal.ofBits, Ideal.ieee]
theorem bits_low : ∃ μ : ℝ, Ideal.ofBits .f32 0xF149F2CA#32 = (μ : EReal) := by
  simp only [Ideal.ofBits, Ideal.ieee]
  simp [-EReal.coe_mul]
  exact ⟨_, rfl⟩

/-! ## Sums of extended reals -/

theorem coe_sum {ι : Type} (S : Finset ι) (f : ι → ℝ) : ((∑ j ∈ S, f j : ℝ) : EReal) = ∑ j ∈ S, (f j : EReal) := by
  induction S using Finset.cons_induction with
  | empty => simp
  | cons a S h ih => rw [Finset.sum_cons, Finset.sum_cons, EReal.coe_add, ih]

theorem sum_mul_coe {ι : Type} (S : Finset ι) (f : ι → EReal) {c : ℝ} (hc : 0 ≤ c) :
    (∑ j ∈ S, f j) * (c : EReal) = ∑ j ∈ S, f j * (c : EReal) := by
  induction S using Finset.cons_induction with
  | empty => simp
  | cons a S h ih =>
    rw [Finset.sum_cons, Finset.sum_cons, EReal.right_distrib_of_nonneg_of_ne_top (by exact_mod_cast hc) (EReal.coe_ne_top c), ih]

/-- The largest of finitely many reals and one more is a real. -/
theorem max_fold_real {ι : Type} [DecidableEq ι] (S : Finset ι) (f : ι → ℝ) (μ : ℝ) :
    ∃ ν : ℝ, max (μ : EReal) (S.fold max ⊥ fun x => (f x : EReal)) = (ν : EReal) := by
  induction S using Finset.induction_on with
  | empty => exact ⟨μ, by simp⟩
  | insert a S h ih =>
    obtain ⟨ν, hν⟩ := ih
    refine ⟨max (f a) ν, ?_⟩
    rw [Finset.fold_insert h, max_left_comm, hν]
    exact (EReal.coe_strictMono.monotone.map_max).symm

theorem fold_real {n : ℕ} (hn : 0 < n) (f : Fin n → ℝ) :
    ∃ ν : ℝ, (Finset.univ.fold max ⊥ fun x => (f x : EReal)) = (ν : EReal) := by
  obtain ⟨ν, hν⟩ := max_fold_real Finset.univ f (f ⟨0, hn⟩)
  refine ⟨ν, ?_⟩
  rw [← hν]
  exact (max_eq_right ((Finset.le_fold_max (s := Finset.univ) (b := ⊥) (f := fun x : Fin n => (f x : EReal)) _).mpr
    (.inr ⟨(⟨0, hn⟩ : Fin n), Finset.mem_univ _, le_rfl⟩))).symm

/-! ## The online softmax -/

/-- After the first `r` keys: a real maximum candidate, the sum of weights and the weighted values relative to it. -/
def Inv (s : ℕ → ℝ) (v : ℕ → EReal) (r : ℕ) (m l a : EReal) : Prop :=
  ∃ μ : ℝ, m = (μ : EReal) ∧ l = ((∑ j ∈ Finset.range r, Real.exp (s j - μ) : ℝ) : EReal)
    ∧ a = ∑ j ∈ Finset.range r, ((Real.exp (s j - μ) : ℝ) : EReal) * v j

theorem inv_start (s : ℕ → ℝ) (v : ℕ → EReal) (μ : ℝ) : Inv s v 0 (μ : EReal) 0 0 := ⟨μ, rfl, by simp, by simp⟩

theorem exp_sub_coe (x μ : ℝ) : Ideal.exp ((x : EReal) - (μ : EReal)) = ((Real.exp (x - μ) : ℝ) : EReal) := by
  rw [← EReal.coe_sub, Ideal.exp_coe]

theorem inv_step (s : ℕ → ℝ) (v : ℕ → EReal) (r n : ℕ) {m l a m' : EReal} (H : Inv s v r m l a)
    (hm : m' = max m (Finset.univ.fold max ⊥ fun x : Fin n => (s (r + x.val) : EReal))) :
    Inv s v (r + n) m' (l * Ideal.exp (m - m') + ∑ x : Fin n, Ideal.exp ((s (r + x.val) : EReal) - m'))
      (a * Ideal.exp (m - m') + ∑ x : Fin n, Ideal.exp ((s (r + x.val) : EReal) - m') * v (r + x.val)) := by
  obtain ⟨μ, rfl, rfl, rfl⟩ := H
  obtain ⟨ν, hν⟩ := max_fold_real Finset.univ (fun x : Fin n => s (r + x.val)) μ
  rw [hν] at hm
  subst hm
  have e : ∀ j, Real.exp (s j - μ) * Real.exp (μ - ν) = Real.exp (s j - ν) := fun j => by
    rw [← Real.exp_add]; congr 1; ring
  refine ⟨ν, rfl, ?_, ?_⟩
  · simp only [exp_sub_coe]
    rw [← coe_sum, ← EReal.coe_mul, ← EReal.coe_add, Finset.sum_mul, Finset.sum_range_add, ← Fin.sum_univ_eq_sum_range (fun x => Real.exp (s (r + x) - ν))]
    simp only [e]
  · simp only [exp_sub_coe]
    rw [sum_mul_coe _ _ (Real.exp_pos _).le, Finset.sum_range_add, ← Fin.sum_univ_eq_sum_range (fun x => ((Real.exp (s (r + x) - ν) : ℝ) : EReal) * v (r + x))]
    refine congrArg (· + _) (Finset.sum_congr rfl fun j _ => ?_)
    rw [mul_right_comm, ← EReal.coe_mul, e]

theorem sum_exp_pos {n : ℕ} (hn : 0 < n) (s : Fin n → ℝ) : 0 < ∑ j, Real.exp (s j) :=
  Finset.sum_pos (fun j _ => Real.exp_pos _) ⟨⟨0, hn⟩, Finset.mem_univ _⟩

/-- All keys seen, the quotient is the mean. -/
theorem inv_mean {n : ℕ} (hn : 0 < n) (s : ℕ → ℝ) (v : ℕ → EReal) {m l a : EReal} (H : Inv s v n m l a) :
    Ideal.div a l = mean (fun j : Fin n => s j.val) fun j => v j.val := by
  obtain ⟨μ, rfl, rfl, rfl⟩ := H
  have hpos := sum_exp_pos hn fun j : Fin n => s j.val
  have e : ∀ j, Real.exp (s j - μ) = Real.exp (s j) * Real.exp (-μ) := fun j => by rw [← Real.exp_add]; rfl
  have he := Real.exp_pos (-μ)
  rw [Finset.sum_range (fun j => Real.exp (s j - μ)), Finset.sum_range (fun j => ((Real.exp (s j - μ) : ℝ) : EReal) * v j)]
  simp only [e]
  rw [← Finset.sum_mul, Ideal.div_coe (by positivity)]
  unfold mean
  rw [sum_mul_coe _ _ (by positivity), sum_mul_coe _ _ (by positivity)]
  refine Finset.sum_congr rfl fun j _ => ?_
  rw [mul_right_comm, ← EReal.coe_mul, mul_right_comm ((Real.exp (s j.val) : ℝ) : EReal), ← EReal.coe_mul]
  congr 2
  field_simp

/-- The weights divided first. -/
theorem weights_mean {n : ℕ} (hn : 0 < n) (s : Fin n → ℝ) (v : Fin n → EReal) {M : EReal}
    (hM : M = Finset.univ.fold max ⊥ fun x => (s x : EReal)) :
    (∑ j, v j * Ideal.div (Ideal.exp ((s j : EReal) - M)) (∑ i, Ideal.exp ((s i : EReal) - M))) = mean s v := by
  obtain ⟨μ, hμ⟩ := fold_real hn s
  rw [hμ] at hM
  subst hM
  have hpos := sum_exp_pos hn s
  have e : ∀ j, Real.exp (s j - μ) = Real.exp (s j) * Real.exp (-μ) := fun j => by rw [← Real.exp_add]; rfl
  have he := Real.exp_pos (-μ)
  simp only [exp_sub_coe]
  rw [← coe_sum]
  unfold mean
  rw [sum_mul_coe _ _ (by positivity)]
  refine Finset.sum_congr rfl fun j _ => ?_
  simp only [e]
  rw [← Finset.sum_mul, Ideal.div_coe (by positivity), ← EReal.coe_mul, mul_comm (_ * v j), ← mul_assoc, ← EReal.coe_mul, mul_comm]
  congr 2
  field_simp

/-- The order of the keys is immaterial. -/
theorem mean_comp {n : ℕ} (σ : Fin n ≃ Fin n) (s : Fin n → ℝ) (v : Fin n → EReal) :
    mean (fun j => s (σ j)) (fun j => v (σ j)) = mean s v := by
  unfold mean
  rw [Equiv.sum_comp σ fun j => ((Real.exp (s j) : ℝ) : EReal) * v j, Equiv.sum_comp σ fun j => Real.exp (s j)]

end Cert.Attn
end
-- ==== Proof.Value.Kernel.lean ====
/- The kernel's vectors read at an index: angles, the swapping matrix, turned rows, tiles and steps. -/
module

public import proofs.«01_k».proof.Proof.Core.Mesh
public import proofs.«01_k».proof.Proof.Value.Spec
public import Idealize.ShloMosaic.Lib.WordCmp

@[expose] public section

noncomputable section

namespace Cert.Attn

open Idealize.ShloMosaic Idealize.SL.Sem Idealize.ShloMosaic.TcCoe
open Cert.KernelIdeal Cert.KernelIdeal.Gen
open Cert.KernelIdeal.Core hiding ix2
open scoped BigOperators

set_option maxRecDepth 16384

/-! ## Angles -/

theorem angles_at (d : Dev nD) (r : Fin 128) (c : Fin 256) :
    angles (F := Ideal) d (ix2 r c) = (angle (128 * d.val + r.val) c.val : ℝ) := by
  pointwise [angles, k0_pay3, k0_pay1, k0_pay2]
  refine (congrArg₂ (fun (p e : ℤ) => ((p : ℝ) : EReal) * Ideal.exp ((0 - Ideal.div ((e : ℝ) : EReal) (Ideal.ofBits .f32 0x42800000#32))
      * (@Named.named Ideal _ _ κ "log_base" .f32 0x41135D8E#32)))
    (?_ : _ = ((128 * d.val + r.val : ℕ) : ℤ)) (?_ : _ = ((2 * (c.val % 64 / 2) : ℕ) : ℤ))).trans ?_
  · revert d r; decide +kernel
  · revert c; decide +kernel
  · rw [show @Named.named Ideal _ _ κ "log_base" .f32 0x41135D8E#32 = ((Real.log 10000 : ℝ) : EReal) from rfl, bits_sixtyfour,
      Ideal.div_coe (by norm_num), zero_sub, ← EReal.coe_mul, ← EReal.coe_neg, ← EReal.coe_mul, Ideal.exp_coe, ← EReal.coe_mul]
    unfold angle
    rw [mul_one_div, Int.cast_natCast, Int.cast_natCast]

/-! ## The swapping matrix -/

theorem word_next (k c : Fin 256) : (BitVec.ofNat 32 k.val = IntOp.addi (BitVec.ofNat 32 c.val) 1#32) ↔ k.val = c.val + 1 := by
  show BitVec.ofNat 32 k.val = BitVec.ofNat 32 c.val + 1#32 ↔ _
  rw [← BitVec.toNat_inj, BitVec.toNat_add]
  simp only [BitVec.toNat_ofNat]
  omega

theorem word_prev (k c : Fin 256) : (BitVec.ofNat 32 k.val = IntOp.subi (BitVec.ofNat 32 c.val) 1#32) ↔ k.val + 1 = c.val := by
  show BitVec.ofNat 32 k.val = BitVec.ofNat 32 c.val - 1#32 ↔ _
  rw [← BitVec.toNat_inj, BitVec.toNat_sub]
  simp only [BitVec.toNat_ofNat]
  omega

/-- The matrix's entry, as a number. -/
def swap (k c : Fin 256) : ℝ :=
  if k.val = c.val + 1 ∧ c.val % 2 = 0 then -1 else if k.val + 1 = c.val ∧ c.val % 2 = 1 then 1 else 0

theorem rotT_at (k c : Fin 256) : rotT (F := Ideal) (ix2 k c) = (swap k c : EReal) := by
  pointwise [rotT, k0_pay7, k0_pay6]
  refine (congrArg₂ (fun (p q : BitVec 1) => Scalar.select p (Ideal.ofBits .f32 0xBF800000#32) (Scalar.select q (1 : EReal) 0))
    (?_ : _ = BitVec.ofBool (decide (k.val = c.val + 1 ∧ c.val % 2 = 0))) (?_ : _ = BitVec.ofBool (decide (k.val + 1 = c.val ∧ c.val % 2 = 1)))).trans ?_
  · refine (congrArg₂ IntOp.andi (?_ : _ = BitVec.ofBool (decide (k.val = c.val + 1))) (?_ : _ = BitVec.ofBool (decide (c.val % 2 = 0)))).trans ?_
    · rw [WordCmp.cmpi_eq_eq]; exact congrArg BitVec.ofBool (decide_eq_decide.mpr (word_next k c))
    · revert c; decide +kernel
    · rw [WordCmp.andi_ofBool, Bool.decide_and]
  · refine (congrArg₂ IntOp.andi (?_ : _ = BitVec.ofBool (decide (k.val + 1 = c.val))) (?_ : _ = BitVec.ofBool (decide (c.val % 2 = 1)))).trans ?_
    · rw [WordCmp.cmpi_eq_eq]; exact congrArg BitVec.ofBool (decide_eq_decide.mpr (word_prev k c))
    · revert c; decide +kernel
    · rw [WordCmp.andi_ofBool, Bool.decide_and]
  · rw [bits_minus_one]
    unfold swap
    by_cases h1 : k.val = c.val + 1 ∧ c.val % 2 = 0
    · rw [if_pos h1, decide_eq_true h1]; rfl
    · rw [if_neg h1, decide_eq_false h1]
      by_cases h2 : k.val + 1 = c.val ∧ c.val % 2 = 1
      · rw [if_pos h2, decide_eq_true h2]; rfl
      · rw [if_neg h2, decide_eq_false h2]; rfl

theorem swap_sum (p : Fin 256 → ℝ) (c : Fin 256) : (∑ k, p k * swap k c) = turned p c := by
  unfold turned swap
  by_cases h : c.val % 2 = 0
  · rw [dif_pos h, Finset.sum_eq_single (⟨c.val + 1, by omega⟩ : Fin 256)]
    · rw [if_pos ⟨rfl, h⟩]; ring
    · intro k _ hk
      rw [if_neg fun e => hk (Fin.ext e.1), if_neg fun e => by omega, mul_zero]
    · exact fun e => absurd (Finset.mem_univ _) e
  · rw [dif_neg h, Finset.sum_eq_single (⟨c.val - 1, by omega⟩ : Fin 256)]
    · rw [if_neg fun e => h e.2, if_pos ⟨by show c.val - 1 + 1 = c.val; omega, by omega⟩, mul_one]
    · intro k _ hk
      rw [if_neg fun e => h e.2, if_neg fun e => hk (Fin.ext (by show k.val = c.val - 1; omega)), mul_zero]
    · exact fun e => absurd (Finset.mem_univ _) e

/-! ## Turned rows -/

theorem roped_at (d : Dev nD) (x : Vec Ideal S1x128x512 .bf16) (w : Vec Ideal S512x256 .bf16) (r : Fin 128) (c : Fin 256)
    (xr : Fin 512 → ℝ) (wr : Fin 512 → Fin 256 → ℝ) (hx : ∀ k, x (ix3 0 r k) = (xr k : EReal)) (hw : ∀ k c, w (ix2 k c) = (wr k c : EReal)) :
    roped (F := Ideal) d x w (ix2 r c) = (rope (fun c => ∑ k, xr k * wr k c) (128 * d.val + r.val) c : ℝ) := by
  pointwise [roped, proj, cosT, sinT]
  have e : ∀ c : Fin 256, (∑ k, x (ix3 0 r k) * w (ix2 k c)) = ((∑ k, xr k * wr k c : ℝ) : EReal) := fun c => by
    rw [coe_sum]; exact Finset.sum_congr rfl fun k _ => by rw [hx, hw, EReal.coe_mul]
  simp only [e, angles_at, rotT_at, Ideal.cos_coe, Ideal.sin_coe, ← EReal.coe_mul]
  rw [← coe_sum, swap_sum fun c => ∑ k, xr k * wr k c, ← EReal.coe_mul, ← EReal.coe_add]
  rfl

theorem keyBlk_at (d : Dev nD) (x : Vec Ideal S1x128x512 .bf16) (w : Vec Ideal S512x256 .bf16) (r : Fin 128) (c : Fin 256) :
    keyBlk (F := Ideal) d x w (ix2 r c) = roped (F := Ideal) d x w (ix2 r c) := by
  pointwise [keyBlk]

theorem valBlk_at (x : Vec Ideal S1x128x512 .bf16) (w : Vec Ideal S512x256 .bf16) (r : Fin 128) (c : Fin 256) :
    valBlk (F := Ideal) x w (ix2 r c) = ∑ k, x (ix3 0 r k) * w (ix2 k c) := by
  pointwise [valBlk, proj]

theorem qHead_at (d : Dev nD) (x : Vec Ideal S1x128x512 .bf16) (w : Vec Ideal S512x256 .bf16) (h : Fin 4) (r : Fin 128) (e : Fin 64) :
    qHead (F := Ideal) d x w h (ix2 r e) = roped (F := Ideal) d x w (ix2 r (col h e)) := by
  pointwise [qHead]
  rfl

/-! ## One step -/

/-- A tile's scores, before they are known to be real. -/
def sc {n : ℕ} (q : FVec Ideal S128x64 .bf16) (k : FVec Ideal ⟨2, ![n, 64]⟩ .fp8e4m3) (r : Fin 128) (x : Fin n) : EReal :=
  (∑ e : Fin 64, q (ix2 r e) * k (ix2 x e)) * Ideal.ofBits .f32 0x3E000000#32

/-- What a step does at a row, for one width of tile. -/
structure Reads {n : ℕ} (T : Tile n) : Prop where
  m : ∀ (q : FVec Ideal S128x64 .bf16) (k : FVec Ideal ⟨2, ![n, 64]⟩ .fp8e4m3) (m : FVec Ideal S128x1 .f32) (r : Fin 128),
    newM T q k m (ix2 r 0) = max (m (ix2 r 0)) (Finset.univ.fold max (Ideal.ofBits .f32 0xFF800000#32) (sc q k r))
  l : ∀ (q : FVec Ideal S128x64 .bf16) (k : FVec Ideal ⟨2, ![n, 64]⟩ .fp8e4m3) (m l : FVec Ideal S128x1 .f32) (r : Fin 128),
    newL T q k m l (ix2 r 0) = l (ix2 r 0) * Ideal.exp (m (ix2 r 0) - newM T q k m (ix2 r 0)) + ∑ x, Ideal.exp (sc q k r x - newM T q k m (ix2 r 0))
  acc : ∀ (q : FVec Ideal S128x64 .bf16) (k : FVec Ideal ⟨2, ![n, 64]⟩ .fp8e4m3) (v : FVec Ideal ⟨2, ![n, 64]⟩ .bf16) (m : FVec Ideal S128x1 .f32)
      (a : FVec Ideal S128x64 .f32) (r : Fin 128) (e : Fin 64),
    newAcc T q k v m a (ix2 r e) = a (ix2 r e) * Ideal.exp (m (ix2 r 0) - newM T q k m (ix2 r 0))
      + ∑ x, Ideal.exp (sc q k r x - newM T q k m (ix2 r 0)) * v (ix2 x e)

theorem reads128 : Reads tile128 where
  m q k m r := by pointwise [newM, scores, tile128]; rfl
  l q k m l r := by pointwise [newL, alpha, weights, scores, tile128]; rfl
  acc q k v m a r e := by pointwise [newAcc, alpha, weights, scores, tile128]; rfl

theorem reads384 : Reads tile384 where
  m q k m r := by pointwise [newM, scores, tile384]; rfl
  l q k m l r := by pointwise [newL, alpha, weights, scores, tile384]; rfl
  acc q k v m a r e := by pointwise [newAcc, alpha, weights, scores, tile384]; rfl

/-- A step over the next `n` keys keeps the invariant. -/
theorem step_inv {n : ℕ} {T : Tile n} (R : Reads T) (s : ℕ → ℝ) (v : ℕ → EReal) (r0 : ℕ) (q : FVec Ideal S128x64 .bf16) (st : St Ideal)
    (kt : FVec Ideal ⟨2, ![n, 64]⟩ .fp8e4m3) (vt : FVec Ideal ⟨2, ![n, 64]⟩ .bf16) (r : Fin 128) (e : Fin 64)
    (hs : ∀ x : Fin n, sc q kt r x = (s (r0 + x.val) : EReal)) (hv : ∀ x : Fin n, vt (ix2 x e) = v (r0 + x.val))
    (H : Inv s v r0 (st.m (ix2 r 0)) (st.l (ix2 r 0)) (st.acc (ix2 r e))) :
    Inv s v (r0 + n) ((step T q st (kt, vt)).m (ix2 r 0)) ((step T q st (kt, vt)).l (ix2 r 0)) ((step T q st (kt, vt)).acc (ix2 r e)) := by
  show Inv s v (r0 + n) (newM T q kt st.m (ix2 r 0)) (newL T q kt st.m st.l (ix2 r 0)) (newAcc T q kt vt st.m st.acc (ix2 r e))
  rw [R.l, R.acc]
  simp only [hs, hv]
  exact inv_step s v r0 n H (by rw [R.m, bits_bot, funext hs])

theorem start_inv (s : ℕ → ℝ) (v : ℕ → EReal) (r : Fin 128) (e : Fin 64) :
    Inv s v 0 ((st0 (F := Ideal)).m (ix2 r 0)) ((st0 (F := Ideal)).l (ix2 r 0)) ((st0 (F := Ideal)).acc (ix2 r e)) := by
  obtain ⟨μ, hμ⟩ := bits_low
  have h0 : (st0 (F := Ideal)).m (ix2 r 0) = (μ : EReal) := hμ
  have h1 : (st0 (F := Ideal)).l (ix2 r 0) = 0 := Ideal.ofBits_zero_f32
  have h2 : (st0 (F := Ideal)).acc (ix2 r e) = 0 := Ideal.ofBits_zero_f32
  rw [h0, h1, h2]
  exact inv_start s v μ

theorem ctx_at (st : St Ideal) (r : Fin 128) (e : Fin 64) : ctx st (ix2 r e) = Ideal.div (st.acc (ix2 r e)) (st.l (ix2 r 0)) := by
  pointwise [ctx]

/-! ## The result rows -/

/-- The four heads' contexts side by side. -/
def cat (s0 s1 s2 s3 : St Ideal) : FVec Ideal S128x256 .f32 :=
  concatenate S128x256 1 [⟨S128x64, ctx s0⟩, ⟨S128x64, ctx s1⟩, ⟨S128x64, ctx s2⟩, ⟨S128x64, ctx s3⟩]
    concatenates_S128x64_S128x64_S128x64_S128x64_S128x256_d1

theorem outBlk_at (wo : Vec Ideal S256x512 .bf16) (s0 s1 s2 s3 : St Ideal) (r : Fin 128) (n : Fin 512) :
    outBlk wo s0 s1 s2 s3 (ix3 0 r n) = ∑ c : Fin 256, cat s0 s1 s2 s3 (ix2 r c) * wo (ix2 c n) := by
  unfold outBlk
  rw [show concatenate S128x256 1 [⟨S128x64, ctx s0⟩, ⟨S128x64, ctx s1⟩, ⟨S128x64, ctx s2⟩, ⟨S128x64, ctx s3⟩]
    concatenates_S128x64_S128x64_S128x64_S128x64_S128x256_d1 = cat s0 s1 s2 s3 from rfl]
  pointwise []

theorem cat_at (st : Fin 4 → St Ideal) (r : Fin 128) (c : Fin 256) :
    cat (st 0) (st 1) (st 2) (st 3) (ix2 r c) = ctx (st ⟨c.val / 64, by omega⟩) (ix2 r ⟨c.val % 64, by omega⟩) := by
  pointwise [cat]
  have e : ∀ (a : Fin 4) (x : ℕ) (hx : x < 64), c.val = 64 * a.val + x →
      ctx (st a) (ix2 r ⟨x, hx⟩) = ctx (st ⟨c.val / 64, by omega⟩) (ix2 r ⟨c.val % 64, by omega⟩) := by
    intro a x hx h
    have h1 : a = ⟨c.val / 64, by omega⟩ := Fin.ext (by show a.val = c.val / 64; omega)
    have h2 : (⟨x, hx⟩ : Fin 64) = ⟨c.val % 64, by omega⟩ := Fin.ext (by show x = c.val % 64; omega)
    rw [h1, h2]
  split
  · exact e 0 _ _ (by simp)
  split
  · exact e 1 _ _ (by show _ = 64 * 1 + _; omega)
  split
  · exact e 2 _ _ (by show _ = 64 * 2 + _; omega)
  · exact e 3 _ _ (by show _ = 64 * 3 + _; omega)

end Cert.Attn
end
-- ==== Proof.Value.Result.lean ====
/- The kernel's result at an index is the closed form. -/
module

public import proofs.«01_k».proof.Proof.Value.Kernel

@[expose] public section

noncomputable section

namespace Cert.Attn

open Idealize.ShloMosaic Idealize.SL.Sem Idealize.ShloMosaic.TcCoe
open Cert.KernelIdeal Cert.KernelIdeal.Gen
open Cert.KernelIdeal.Core hiding ix2
open scoped BigOperators

set_option maxRecDepth 16384

/-- What every device starts from: its rows of the tokens, and the weights. -/
structure Holds (I : Ins Ideal) (A : Arrays) : Prop where
  x : ∀ (d : Dev nD) (b : Fin 2) (r : Fin 128) (k : Fin 512),
    I.x d (ix3 b r k) = (A.x b ⟨128 * d.val + r.val, by have := d.isLt; have : nD = 16 := rfl; omega⟩ k : EReal)
  wq : ∀ (d : Dev nD) (k : Fin 512) (c : Fin 256), I.wq d (ix2 k c) = (A.wq k c : EReal)
  wk : ∀ (d : Dev nD) (k : Fin 512) (c : Fin 256), I.wk d (ix2 k c) = (A.wk k c : EReal)
  wv : ∀ (d : Dev nD) (k : Fin 512) (c : Fin 256), I.wv d (ix2 k c) = A.wv k c
  wo : ∀ (d : Dev nD) (c : Fin 256) (n : Fin 512), I.wo d (ix2 c n) = A.wo c n

variable {I : Ins Ideal} {A : Arrays} (H : Holds I A)

/-- Row `r` of device `d`, as a row of the whole array. -/
def rowOf (d : Dev nD) (r : Fin 128) : Fin 2048 := ⟨128 * d.val + r.val, by have := d.isLt; have : nD = 16 := rfl; omega⟩

theorem ix2_eq {a b : ℕ} (i : Fin a) (j : Fin b) : Core.ix2 i j = ix2 i j := by
  funext k; match k with
  | 0 => rfl
  | 1 => rfl

theorem batch_at (x : S2x128x512.Idx → Ideal .bf16) (b : Fin 2) (r : Fin 128) (k : Fin 512) : batchOf x b (ix3 0 r k) = x (ix3 b r k) := by
  show x ((batchR b).emb (ix3 0 r k)) = x (ix3 b r k)
  congr 1
  funext a
  fin_cases a
  · exact Fin.ext (by show b.val + 1 * 0 = b.val; omega)
  · exact Fin.ext (by show 0 + 1 * r.val = r.val; omega)
  · exact Fin.ext (by show 0 + 1 * k.val = k.val; omega)

include H

theorem kHalf_at (d : Dev nD) (b : Fin 2) (r : Fin 128) (c : Fin 256) : kHalf I d b (ix2 r c) = (A.key b (rowOf d r) c : EReal) := by
  show keyBlk d (batchOf (I.x d) b) (I.wk d) (ix2 r c) = _
  rw [keyBlk_at, roped_at d _ _ r c _ _ (fun k => (batch_at _ b r k).trans (H.x d b r k)) (H.wk d)]
  rfl

theorem vHalf_at (d : Dev nD) (b : Fin 2) (r : Fin 128) (c : Fin 256) : vHalf I d b (ix2 r c) = A.value b (rowOf d r) c := by
  show valBlk (batchOf (I.x d) b) (I.wv d) (ix2 r c) = _
  rw [valBlk_at]
  exact Finset.sum_congr rfl fun k _ => by rw [batch_at, H.x, H.wv]; rfl

theorem query_at (d : Dev nD) (b : Fin 2) (h : Fin 4) (r : Fin 128) (e : Fin 64) :
    qHead (F := Ideal) d (batchOf (I.x d) b) (I.wq d) h (ix2 r e) = (A.query b (rowOf d r) (col h e) : EReal) := by
  rw [qHead_at, roped_at d _ _ r _ _ _ (fun k => (batch_at _ b r k).trans (H.x d b r k)) (H.wq d)]
  rfl

/-- The key that slot `r` of device `c`'s buffer holds. -/
def slot (c : Dev nD) (r : Fin 2048) : Fin 2048 := rowOf (owner ⟨r.val / 128, by omega⟩ c) ⟨r.val % 128, by omega⟩

omit H in
theorem slot_bijective (c : Dev nD) : Function.Bijective (slot c) := by
  refine (Fintype.bijective_iff_injective_and_card _).mpr ⟨fun a b h => ?_, rfl⟩
  have hv : 128 * (owner ⟨a.val / 128, by omega⟩ c).val + a.val % 128 = 128 * (owner ⟨b.val / 128, by omega⟩ c).val + b.val % 128 := congrArg Fin.val h
  have ho := (owner_bijective c).1 (a₁ := ⟨a.val / 128, by omega⟩) (a₂ := ⟨b.val / 128, by omega⟩) (Fin.ext (by show (owner _ c).val = (owner _ c).val; omega))
  have := congrArg Fin.val ho
  exact Fin.ext (by simp only at this; omega)

/-- Head `i` of eight: its batch and its head there. -/
def hb (i : Fin 8) : Fin 2 := ⟨i.val / 4, by omega⟩
def hh (i : Fin 8) : Fin 4 := ⟨i.val % 4, by omega⟩

omit H in
/-- A tile's element, in the gathered rows. -/
theorem tile_at {φ : FTy} (f : Dev nD → Fin 2 → S128x256.Idx → Ideal φ) {n : ℕ} (c : Dev nD) (r : ℕ) (h : r + n ≤ 2048) (i : Fin 8) (x : Fin n) (e : Fin 64) :
    gathered (fun d => pair (f d)) c ((tileR n r h i.val).emb (ix2 x e))
      = f (owner ⟨(r + x.val) / 128, by omega⟩ c) (hb i) (ix2 ⟨(r + x.val) % 128, by omega⟩ (col (hh i) e)) := by
  have e0 : ((tileR n r h i.val).emb (ix2 x e) 0).val = r + x.val := by show r + 1 * x.val = _; omega
  have e1 : ((tileR n r h i.val).emb (ix2 x e) 1).val = 64 * (i.val % 8) + e.val := by show 64 * (i.val % 8) + 1 * e.val = _; omega
  show f (owner (rowSlab _) c) (colHalf _) (Core.ix2 (rowIn _) (colIn _)) = _
  have a1 : rowSlab ((tileR n r h i.val).emb (ix2 x e)) = ⟨(r + x.val) / 128, by omega⟩ := Fin.ext (by show _ / 128 = _ / 128; rw [e0])
  have a2 : rowIn ((tileR n r h i.val).emb (ix2 x e)) = ⟨(r + x.val) % 128, by omega⟩ := Fin.ext (by show _ % 128 = _ % 128; rw [e0])
  have a3 : colHalf ((tileR n r h i.val).emb (ix2 x e) 1) = hb i := Fin.ext (by show _ / 256 = i.val / 4; rw [e1]; omega)
  have a4 : colIn ((tileR n r h i.val).emb (ix2 x e) 1) = col (hh i) e := Fin.ext (by show _ % 256 = 64 * (i.val % 4) + e.val; rw [e1]; omega)
  rw [ix2_eq]
  exact congr (congr (congrArg (fun s => f (owner s c)) a1) a3) (congr (congrArg ix2 a2) a4)

theorem kTile_at {n : ℕ} (c : Dev nD) (r : ℕ) (h : r + n ≤ 2048) (i : Fin 8) (x : Fin n) (e : Fin 64) :
    kTile I c r h i.val (ix2 x e) = (A.key (hb i) (slot c ⟨r + x.val, by omega⟩) (col (hh i) e) : EReal) :=
  (tile_at (kHalf I) c r h i x e).trans (kHalf_at H _ _ _ _)

theorem vTile_at {n : ℕ} (c : Dev nD) (r : ℕ) (h : r + n ≤ 2048) (i : Fin 8) (x : Fin n) (e : Fin 64) :
    vTile I c r h i.val (ix2 x e) = A.value (hb i) (slot c ⟨r + x.val, by omega⟩) (col (hh i) e) :=
  (tile_at (vHalf I) c r h i x e).trans (vHalf_at H _ _ _ _)

theorem qAll_at (c : Dev nD) (i : Fin 8) (r : Fin 128) (e : Fin 64) :
    qAll I c i (ix2 r e) = (A.query (hb i) (rowOf c r) (col (hh i) e) : EReal) := by
  show (if i.val < 4 then qHead c (batchOf (I.x c) 0) (I.wq c) (hh i) else qHead c (batchOf (I.x c) 1) (I.wq c) (hh i)) (ix2 r e) = _
  by_cases h : i.val < 4
  · rw [if_pos h, query_at H, show hb i = 0 from Fin.ext (by show i.val / 4 = 0; omega)]
  · rw [if_neg h, query_at H, show hb i = 1 from Fin.ext (by show i.val / 4 = 1; omega)]

/-- The scores of row `r` of device `c` in head `i`, by slot. -/
def slotScore (A : Arrays) (c : Dev nD) (i : Fin 8) (r : Fin 128) (j : ℕ) : ℝ :=
  if h : j < 2048 then score (A.query (hb i) (rowOf c r)) (A.key (hb i) (slot c ⟨j, h⟩)) (hh i) else 0
/-- The values of column `e` of head `i`, by slot. -/
def slotValue (A : Arrays) (c : Dev nD) (i : Fin 8) (e : Fin 64) (j : ℕ) : EReal :=
  if h : j < 2048 then A.value (hb i) (slot c ⟨j, h⟩) (col (hh i) e) else 0

omit H in
/-- The invariant of a head's state at row `r`, column `e`, after `n` keys. -/
def After (A : Arrays) (c : Dev nD) (i : Fin 8) (r : Fin 128) (e : Fin 64) (n : ℕ) (st : Fin 8 → St Ideal) : Prop :=
  Inv (slotScore A c i r) (slotValue A c i e) n ((st i).m (ix2 r 0)) ((st i).l (ix2 r 0)) ((st i).acc (ix2 r e))

theorem fold_after {n : ℕ} {T : Tile n} (R : Reads T) (c : Dev nD) (i : Fin 8) (r : Fin 128) (e : Fin 64) (r0 : ℕ) (h : r0 + n ≤ 2048)
    (st : Fin 8 → St Ideal) (hst : After A c i r e r0 st) : After A c i r e (r0 + n) (fold I T c r0 h (qAll I c) st) := by
  refine step_inv R _ _ r0 (qAll I c i) (st i) (kTile I c r0 h i.val) (vTile I c r0 h i.val) r e (fun x => ?_) (fun x => ?_) hst
  · unfold sc slotScore score
    rw [dif_pos (by omega), bits_eighth, EReal.coe_mul, coe_sum]
    exact congrArg (· * _) (Finset.sum_congr rfl fun d _ => by rw [qAll_at H, kTile_at H, EReal.coe_mul])
  · unfold slotValue
    rw [dif_pos (by omega), vTile_at H]

theorem states_after (c : Dev nD) (i : Fin 8) (r : Fin 128) (e : Fin 64) : After A c i r e 2048 (states I c) :=
  fold_after H reads384 c i r e 1664 _ _ <| fold_after H reads384 c i r e 1280 _ _ <| fold_after H reads384 c i r e 896 _ _ <|
  fold_after H reads384 c i r e 512 _ _ <| fold_after H reads384 c i r e 128 _ _ <| fold_after H reads128 c i r e 0 _ _ <|
  start_inv _ _ r e

theorem context_at (c : Dev nD) (i : Fin 8) (r : Fin 128) (e : Fin 64) :
    ctx (states I c i) (ix2 r e) = A.context (hb i) (rowOf c r) (col (hh i) e) := by
  rw [ctx_at, inv_mean (by omega) _ _ (states_after H c i r e)]
  unfold Arrays.context
  rw [show (⟨(col (hh i) e).val / 64, by omega⟩ : Fin 4) = hh i from Fin.ext (by show (64 * (hh i).val + e.val) / 64 = _; omega),
    ← mean_comp (Equiv.ofBijective _ (slot_bijective c)) fun j => score _ _ _]
  refine congrArg₂ mean (funext fun j => ?_) (funext fun j => ?_)
  · unfold slotScore; rw [dif_pos j.isLt]; rfl
  · unfold slotValue; rw [dif_pos j.isLt]; rfl

theorem heads_at (c : Dev nD) (b : Fin 2) (st : Fin 4 → St Ideal) (hst : ∀ h : Fin 4, st h = states I c ⟨4 * b.val + h.val, by omega⟩)
    (r : Fin 128) (n : Fin 512) : outBlk (I.wo c) (st 0) (st 1) (st 2) (st 3) (ix3 0 r n) = A.out b (rowOf c r) n := by
  rw [outBlk_at]
  refine Finset.sum_congr rfl fun k _ => ?_
  rw [cat_at, hst, context_at H, H.wo]
  congr 2
  · exact Fin.ext (by show (4 * b.val + k.val / 64) / 4 = b.val; omega)
  · exact Fin.ext (by show 64 * ((4 * b.val + k.val / 64) % 4) + k.val % 64 = k.val; omega)

/-- The kernel's result. -/
theorem result_at (c : Dev nD) (b : Fin 2) (r : Fin 128) (n : Fin 512) : result I c (ix3 b r n) = A.out b (rowOf c r) n := by
  have e : (fun a => match a with | 0 => (0 : Fin 1) | 1 => r | 2 => n : S1x128x512.Idx) = ix3 0 r n := by
    funext a; match a with
    | 0 => rfl
    | 1 => rfl
    | 2 => rfl
  show outAt I c b (fun a => match a with | 0 => (0 : Fin 1) | 1 => r | 2 => n) = _
  match b with
  | 0 => exact (congrArg (outAt I c 0) e).trans (heads_at H c 0 (fun h => states I c ⟨4 * 0 + h.val, by omega⟩) (fun _ => rfl) r n)
  | 1 => exact (congrArg (outAt I c 1) e).trans (heads_at H c 1 (fun h => states I c ⟨4 * 1 + h.val, by omega⟩) (fun _ => rfl) r n)

end Cert.Attn
end
-- ==== Proof.Value.Reference.lean ====
/- The reference's result at an index is the closed form. -/
module

public import proofs.«01_k».proof.Proof.Gen.ReferenceIdeal.Run
public import proofs.«01_k».proof.Proof.Value.Spec
public import Idealize.ShloMosaic.Lib.WordCmp

@[expose] public section

noncomputable section

namespace Cert.Attn.Ref

open Idealize.ShloMosaic Idealize.SL.Sem Idealize.ShloMosaic.TcCoe
open Cert.ReferenceIdeal Cert.ReferenceIdeal.Gen
open scoped BigOperators

set_option maxRecDepth 16384

/-- A projection of the tokens, by heads. -/
def proj (x : FVec Ideal S2x2048x512 .bf16) (w : FVec Ideal S512x256 .bf16) : FVec Ideal S2x2048x4x64 .f32 :=
  shapeCast _ (extf .f32 (truncf .bf16 (Host.dotGeneral dot_S2x2048x512_S512x256_S2x2048x256_2_0_01_1_n_n none x w : FVec Ideal S2x2048x256 .f32) bitsLt_bf16_f32) bitsLt_bf16_f32)
    shapeCasts_S2x2048x256_S2x2048x4x64

/-- The angle of each position and pair of columns. -/
def ang : FVec Ideal S2048x32 .f32 :=
  mulf (broadcastInDim S2048x32 ![0, 1] bcast_S2048x1_S2048x32_0_1 (sitofp .f32 (broadcastInDim S2048x1 ![0] bcast_S2048_S2048x1_0 (iotaInDim S2048 32 0))))
    (broadcastInDim S2048x32 ![0, 1] bcast_S1x32_S2048x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (addi (broadcastInDim S32 ![] bcast_S_S32 (constantI S_ 32 0#32))
              (muli (broadcastInDim S32 ![] bcast_S_S32 (constantI S_ 32 2#32)) (iotaInDim S32 32 0))))
            (broadcastInDim S32 ![] bcast_S_S32 (constant S_ .f32 0x42800000#32)))))))

/-- A number per position and pair, at every batch, head and column. -/
def spread (t : FVec Ideal S2048x32 .f32) : FVec Ideal S2x2048x4x64 .f32 :=
  broadcastInDim S2x2048x4x64 ![0, 1, 2, 3] bcast_S1x2048x1x64_S2x2048x4x64_0_1_2_3 (broadcastInDim S1x2048x1x64 ![1, 3] bcast_S2048x64_S1x2048x1x64_1_3
    (shapeCast _ (broadcastInDim S2048x32x2 ![0, 1] bcast_S2048x32_S2048x32x2_0_1 t) shapeCasts_S2048x32x2_S2048x64))

/-- The two of each pair swapped, the first of them negated. -/
def flip (p : FVec Ideal S2x2048x4x64 .f32) : FVec Ideal S2x2048x4x64 .f32 :=
  shapeCast _ (concatenate S2x2048x4x32x2 4
    [⟨S2x2048x4x32x1, broadcastInDim S2x2048x4x32x1 ![0, 1, 2, 3] bcast_S2x2048x4x32_S2x2048x4x32x1_0_1_2_3 (Host.negf (shapeCast _
        (extractStridedSlice S2x2048x4x32x1 ![0, 0, 0, 0, 1] (shapeCast _ p shapeCasts_S2x2048x4x64_S2x2048x4x32x2) slices_S2x2048x4x32x2_S2x2048x4x32x1_0_0_0_0_1)
        shapeCasts_S2x2048x4x32x1_S2x2048x4x32))⟩,
     ⟨S2x2048x4x32x1, broadcastInDim S2x2048x4x32x1 ![0, 1, 2, 3] bcast_S2x2048x4x32_S2x2048x4x32x1_0_1_2_3 (shapeCast _
        (extractStridedSlice S2x2048x4x32x1 ![0, 0, 0, 0, 0] (shapeCast _ p shapeCasts_S2x2048x4x64_S2x2048x4x32x2) slices_S2x2048x4x32x2_S2x2048x4x32x1_0_0_0_0_0)
        shapeCasts_S2x2048x4x32x1_S2x2048x4x32)⟩]
    concatenates_S2x2048x4x32x1_S2x2048x4x32x1_S2x2048x4x32x2_d4) shapeCasts_S2x2048x4x32x2_S2x2048x4x64

/-- Rows turned by their positions' angles. -/
def rot (p : FVec Ideal S2x2048x4x64 .f32) : FVec Ideal S2x2048x4x64 .f32 := addf (mulf p (spread (Host.cos ang))) (mulf (flip p) (spread (Host.sin ang)))

/-- The scaled scores. -/
def scores (q k : FVec Ideal S2x2048x4x64 .f32) : FVec Ideal S2x4x2048x2048 .f32 :=
  mulf (Host.dotGeneral dot_S2x2048x4x64_S2x2048x4x64_S2x4x2048x2048_3_3_1_1_02_02 none q k)
    (broadcastInDim S2x4x2048x2048 ![] bcast_S_S2x4x2048x2048 (constant S_ .f32 0x3E000000#32))

/-- A number per query, at every key. -/
def overKeys (t : FVec Ideal S2x4x2048 .f32) : FVec Ideal S2x4x2048x2048 .f32 :=
  broadcastInDim S2x4x2048x2048 ![0, 1, 2, 3] bcast_S2x4x2048x1_S2x4x2048x2048_0_1_2_3 (broadcastInDim S2x4x2048x1 ![0, 1, 2] bcast_S2x4x2048_S2x4x2048x1_0_1_2 t)

/-- The exponentials, each query's largest score taken off. -/
def exps (s : FVec Ideal S2x4x2048x2048 .f32) : FVec Ideal S2x4x2048x2048 .f32 :=
  Host.exp (subf s (overKeys (Host.reduce FloatOps.maximumf s (constant S_ .f32 0xFF800000#32) reducesTo_S2x4x2048x2048_S2x4x2048_d3 h_S_)))

/-- The softmax weights. -/
def softmax (e : FVec Ideal S2x4x2048x2048 .f32) : FVec Ideal S2x4x2048x2048 .f32 :=
  Host.divf e (overKeys (Host.reduceAdd e (constant S_ .f32 0x00000000#32) reducesTo_S2x4x2048x2048_S2x4x2048_d3 h_S_))

/-- The attended values. -/
def attend (v : FVec Ideal S2x2048x4x64 .f32) (w : FVec Ideal S2x4x2048x2048 .f32) : FVec Ideal S2x2048x256 .f32 :=
  shapeCast _ (transpose S2x2048x4x64 [0, 3, 1, 2] (Host.dotGeneral dot_S2x2048x4x64_S2x4x2048x2048_S2x4x64x2048_1_3_3_2_02_01 none v w : FVec Ideal S2x4x64x2048 .f32)
    transposes_S2x4x64x2048_S2x2048x4x64_0_3_1_2) shapeCasts_S2x2048x4x64_S2x2048x256

/-- The result rows. -/
def final (c : FVec Ideal S2x2048x256 .f32) (wo : FVec Ideal S256x512 .bf16) : FVec Ideal S2x2048x512 .f32 :=
  Host.dotGeneral dot_S2x2048x256_S256x512_S2x2048x512_2_0_01_1_n_n none c (extf .f32 wo bitsLt_bf16_f32)

/-- The whole reference. -/
def all (x : FVec Ideal S2x2048x512 .bf16) (wq wk wv : FVec Ideal S512x256 .bf16) (wo : FVec Ideal S256x512 .bf16) : FVec Ideal S2x2048x512 .f32 :=
  final (attend (proj x wv) (softmax (exps (scores (rot (proj x wq)) (rot (proj x wk)))))) wo

theorem out_eq (m : (ℓ : Loc nD τ sig) → Buf (Elt Ideal) ℓ) (c : Dev nD) :
    Value.res_main_v87 m c = all (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v87 all final attend softmax exps overKeys scores rot flip spread ang proj
  rfl

theorem proj_at (x : FVec Ideal S2x2048x512 .bf16) (w : FVec Ideal S512x256 .bf16) (b : Fin 2) (i : Fin 2048) (h : Fin 4) (d : Fin 64) :
    proj x w (ix4 b i h d) = ∑ k, x (ix3 b i k) * w (ix2 k (col h d)) := by
  pointwise [proj]
  exact Finset.sum_congr rfl fun k _ => congrArg (fun c => _ * w (ix2 k c)) (Fin.ext (by show h.val * 64 + d.val = 64 * h.val + d.val; omega))

theorem ang_at (i : Fin 2048) (c : Fin 32) : ang (ix2 i c) = (angle i.val (2 * c.val) : ℝ) := by
  pointwise [ang]
  refine (congrArg₂ (fun (p e : ℤ) => ((p : ℝ) : EReal) * Ideal.div 1 (Ideal.pow (Ideal.ofBits .f32 0x461C4000#32)
    (Ideal.div ((e : ℝ) : EReal) (Ideal.ofBits .f32 0x42800000#32)))) (?_ : _ = ((i.val : ℕ) : ℤ)) (?_ : _ = ((2 * c.val : ℕ) : ℤ))).trans ?_
  · revert i; decide +kernel
  · revert c; decide +kernel
  · have hb : 2 * c.val % 64 / 2 = c.val := by omega
    rw [bits_base, bits_sixtyfour, Ideal.div_coe (by norm_num), Int.cast_natCast, Int.cast_natCast, ← EReal.coe_mul, Ideal.pow_coe_coe,
      show Real.rpow 10000 (((2 * c.val : ℕ) : ℝ) * (1 / 64)) = Real.exp (Real.log 10000 * (((2 * c.val : ℕ) : ℝ) * (1 / 64))) from
        Real.rpow_def_of_pos (by norm_num) _, Ideal.div_coe (Real.exp_pos _).ne', ← EReal.coe_one, ← EReal.coe_mul, ← EReal.coe_mul]
    unfold angle
    rw [hb, one_mul, one_div, ← Real.exp_neg]
    congr 3
    ring

theorem spread_at (t : FVec Ideal S2048x32 .f32) (b : Fin 2) (i : Fin 2048) (h : Fin 4) (d : Fin 64) :
    spread t (ix4 b i h d) = t (ix2 i ⟨d.val / 2, by omega⟩) := by
  pointwise [spread]

theorem flip_at (p : FVec Ideal S2x2048x4x64 .f32) (b : Fin 2) (i : Fin 2048) (h : Fin 4) (d : Fin 64) :
    flip p (ix4 b i h d) = if hd : d.val % 2 = 0 then -p (ix4 b i h ⟨d.val + 1, by omega⟩) else p (ix4 b i h ⟨d.val - 1, by omega⟩) := by
  pointwise [flip]
  by_cases hd : d.val % 2 = 0
  · rw [dif_pos (by omega), dif_pos hd]
    exact congrArg (fun k => -p (ix4 b i h k)) (Fin.ext (by show d.val / 2 * 2 + 1 = d.val + 1; omega))
  · rw [dif_neg (by omega), dif_neg hd]
    exact congrArg (fun k => p (ix4 b i h k)) (Fin.ext (by show d.val / 2 * 2 = d.val - 1; omega))

theorem scores_at (q k : FVec Ideal S2x2048x4x64 .f32) (b : Fin 2) (h : Fin 4) (i j : Fin 2048) :
    scores q k (ix4 b h i j) = (∑ d, q (ix4 b i h d) * k (ix4 b j h d)) * Ideal.ofBits .f32 0x3E000000#32 := by
  pointwise [scores]

theorem exps_at (s : FVec Ideal S2x4x2048x2048 .f32) (b : Fin 2) (h : Fin 4) (i j : Fin 2048) :
    exps s (ix4 b h i j) = Ideal.exp (s (ix4 b h i j) - Finset.univ.fold max (Ideal.ofBits .f32 0xFF800000#32) fun j => s (ix4 b h i j)) := by
  pointwise [exps, overKeys]

theorem softmax_at (e : FVec Ideal S2x4x2048x2048 .f32) (b : Fin 2) (h : Fin 4) (i j : Fin 2048) :
    softmax e (ix4 b h i j) = Ideal.div (e (ix4 b h i j)) (∑ j, e (ix4 b h i j)) := by
  pointwise [softmax, overKeys]

theorem attend_at (v : FVec Ideal S2x2048x4x64 .f32) (w : FVec Ideal S2x4x2048x2048 .f32) (b : Fin 2) (i : Fin 2048) (c : Fin 256) :
    attend v w (ix3 b i c) = ∑ j, v (ix4 b j ⟨c.val / 64, by omega⟩ ⟨c.val % 64, by omega⟩) * w (ix4 b ⟨c.val / 64, by omega⟩ i j) := by
  pointwise [attend]

theorem final_at (c : FVec Ideal S2x2048x256 .f32) (wo : FVec Ideal S256x512 .bf16) (b : Fin 2) (i : Fin 2048) (n : Fin 512) :
    final c wo (ix3 b i n) = ∑ k, c (ix3 b i k) * wo (ix2 k n) := by
  pointwise [final]

theorem rot_at (p : FVec Ideal S2x2048x4x64 .f32) (b : Fin 2) (i : Fin 2048) (pr : Fin 256 → ℝ) (hp : ∀ h d, p (ix4 b i h d) = (pr (col h d) : EReal))
    (h : Fin 4) (d : Fin 64) : rot p (ix4 b i h d) = (rope pr i.val (col h d) : EReal) := by
  have ha : ang (ix2 i ⟨d.val / 2, by omega⟩) = ((angle i.val (col h d).val : ℝ) : EReal) := by
    rw [ang_at]; unfold angle
    rw [show (2 * (2 * (d.val / 2) % 64 / 2)) = 2 * ((col h d).val % 64 / 2) by show _ = 2 * ((64 * h.val + d.val) % 64 / 2); omega]
  have hc : spread (Host.cos ang) (ix4 b i h d) = ((Real.cos (angle i.val (col h d).val) : ℝ) : EReal) := by
    rw [spread_at]; show Ideal.cos (ang _) = _; rw [ha]; rfl
  have hs : spread (Host.sin ang) (ix4 b i h d) = ((Real.sin (angle i.val (col h d).val) : ℝ) : EReal) := by
    rw [spread_at]; show Ideal.sin (ang _) = _; rw [ha]; rfl
  have hf : flip p (ix4 b i h d) = ((turned pr (col h d) : ℝ) : EReal) := by
    rw [flip_at]; unfold turned
    by_cases hd : d.val % 2 = 0
    · rw [dif_pos hd, dif_pos (by show (64 * h.val + d.val) % 2 = 0; omega), hp, EReal.coe_neg]; rfl
    · rw [dif_neg hd, dif_neg (by show ¬ (64 * h.val + d.val) % 2 = 0; omega), hp]
      exact congrArg (fun c => ((pr c : ℝ) : EReal)) (Fin.ext (by show 64 * h.val + (d.val - 1) = 64 * h.val + d.val - 1; omega))
  show p _ * spread _ _ + flip p _ * spread _ _ = _
  rw [hp, hc, hs, hf, ← EReal.coe_mul, ← EReal.coe_mul, ← EReal.coe_add]
  rfl

/-- The reference's result. -/
theorem all_at (A : Arrays) (x : FVec Ideal S2x2048x512 .bf16) (wq wk wv : FVec Ideal S512x256 .bf16) (wo : FVec Ideal S256x512 .bf16)
    (hx : ∀ b i k, x (ix3 b i k) = (A.x b i k : EReal)) (hq : ∀ k c, wq (ix2 k c) = (A.wq k c : EReal)) (hk : ∀ k c, wk (ix2 k c) = (A.wk k c : EReal))
    (hv : ∀ k c, wv (ix2 k c) = A.wv k c) (ho : ∀ c n, wo (ix2 c n) = A.wo c n) (b : Fin 2) (i : Fin 2048) (n : Fin 512) :
    all x wq wk wv wo (ix3 b i n) = A.out b i n := by
  have lin : ∀ (w : FVec Ideal S512x256 .bf16) (wr : Fin 512 → Fin 256 → ℝ) (_ : ∀ k c, w (ix2 k c) = (wr k c : EReal)) (i : Fin 2048) h d,
      proj x w (ix4 b i h d) = (A.lin wr b i (col h d) : EReal) := fun w wr hw i h d => by
    rw [proj_at]; unfold Arrays.lin; rw [coe_sum]
    exact Finset.sum_congr rfl fun k _ => by rw [hx, hw, EReal.coe_mul]
  have hs : ∀ h i j, scores (rot (proj x wq)) (rot (proj x wk)) (ix4 b h i j) = (score (A.query b i) (A.key b j) h : EReal) := fun h i j => by
    rw [scores_at, bits_eighth]; unfold score
    rw [EReal.coe_mul, coe_sum]
    exact congrArg (· * _) (Finset.sum_congr rfl fun d _ => by
      rw [rot_at _ b i _ (lin wq A.wq hq i), rot_at _ b j _ (lin wk A.wk hk j), EReal.coe_mul]; rfl)
  unfold all
  rw [final_at]
  refine Finset.sum_congr rfl fun c _ => ?_
  rw [attend_at, ho]
  congr 1
  simp only [softmax_at, exps_at, hs, bits_bot, proj_at]
  rw [weights_mean (by omega) (fun j => score (A.query b i) (A.key b j) ⟨c.val / 64, by omega⟩) _ rfl]
  refine congrArg (mean _) (funext fun j => Finset.sum_congr rfl fun k _ => ?_)
  rw [hx, hv]
  exact congrArg (fun c => _ * A.wv k c) (Fin.ext (by show 64 * (c.val / 64) + c.val % 64 = c.val; omega))

end Cert.Attn.Ref
end
-- ==== Proof.Value.Algebraic.lean ====
/- The kernel's result is the reference's, where the tokens and the query and key weights are finite. -/
module

public import proofs.«01_k».proof.Proof.Value.Result
public import proofs.«01_k».proof.Proof.Value.Reference
public import proofs.«01_k».proof.Proof.Core.Pre
public import Idealize.ShloMosaic.Lib.ReduceAll
public import Idealize.ShloMosaic.Lib.LayoutAt

@[expose] public section

noncomputable section

namespace Cert.Attn

open Cert.KernelIdeal
open Idealize.ShloMosaic Idealize.SL.Sem Idealize.ShloMosaic.TcCoe
open scoped BigOperators

set_option maxRecDepth 16384

/-! ## What the precondition says -/

theorem bits_top : Ideal.ofBits .f32 0x7F800000#32 = ⊤ := by simp [Ideal.ofBits, Ideal.ieee]

/-- An extended real whose absolute value is below the top one is real. -/
theorem real_of_lt (x : EReal) (h : Ideal.cmp .olt (max x (-x)) (Ideal.ofBits .f32 0x7F800000#32) = 1#1) : ((x.toReal : ℝ) : EReal) = x := by
  rw [bits_top] at h
  have hlt : max x (-x) < ⊤ := by
    by_contra hn
    have e : Ideal.cmp .olt (max x (-x)) ⊤ = BitVec.ofBool (decide (max x (-x) < ⊤)) := rfl
    rw [e, decide_eq_false hn] at h
    exact absurd h (by decide)
  refine EReal.coe_toReal (fun e => ?_) (fun e => ?_) <;> subst e <;> simp at hlt

instance : Subsingleton Pre_finite_scores_KernelIdeal.S_.Idx := ⟨fun a b => funext fun i => i.elim0⟩

theorem pre_real [hP : Cert.Pre_finite_scores_KernelIdeal.Facts] (a0 : FVec Ideal Pre_finite_scores_KernelIdeal.S2x128x512 .bf16)
    (a1 a2 a3 : FVec Ideal Pre_finite_scores_KernelIdeal.S512x256 .bf16) (a4 : FVec Ideal Pre_finite_scores_KernelIdeal.S256x512 .bf16)
    (h : Pre_finite_scores_KernelIdeal.fn (F := Ideal) a0 a1 a2 a3 a4 = fun _ => 1#1) :
    (∀ i, ((EReal.toReal (a0 i) : ℝ) : EReal) = a0 i) ∧ (∀ i, ((EReal.toReal (a1 i) : ℝ) : EReal) = a1 i)
      ∧ ∀ i, ((EReal.toReal (a2 i) : ℝ) : EReal) = a2 i := by
  have h0 := congrFun h fun i => i.elim0
  dsimp only [Pre_finite_scores_KernelIdeal.fn] at h0
  have split : ∀ a b : BitVec 1, IntOp.andi a b = 1#1 → a = 1#1 ∧ b = 1#1 := by decide
  obtain ⟨h01, h2⟩ := split _ _ h0
  obtain ⟨h0, h1⟩ := split _ _ h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

/-! ## Blocks of the whole arrays -/

theorem block_at (X : (⟨3, ![2, 2048, 512]⟩ : Shape).Idx → EReal) (c : Fin 16) (b : Fin 2) (r : Fin 128) (k : Fin 512) :
    Layout.block ⟨3, ![2, 128, 512]⟩ ⟨3, ![2, 2048, 512]⟩ 1 16 c X (by decide) (ix3 b r k) = X (ix3 b (rowOf c r) k) := by
  rw [Layout.block_apply]
  congr 1
  funext a
  match a with
  | 0 => rfl
  | 1 => exact Fin.ext (by show c.val * 128 + r.val = 128 * c.val + r.val; omega)
  | 2 => rfl

theorem row_split (i : Fin 2048) : ∃ (c : Fin 16) (r : Fin 128), i = rowOf c r :=
  ⟨⟨i.val / 128, by omega⟩, ⟨i.val % 128, by omega⟩, Fin.ext (by show i.val = 128 * (i.val / 128) + i.val % 128; omega)⟩

theorem eta3 {n0 n1 n2 : ℕ} (i : (⟨3, ![n0, n1, n2]⟩ : Shape).Idx) : i = ix3 (i 0) (i 1) (i 2) := by
  funext a
  match a with
  | 0 => rfl
  | 1 => rfl
  | 2 => rfl

/-- The whole arrays, read as numbers. -/
def arrays (x : (⟨3, ![2, 2048, 512]⟩ : Shape).Idx → EReal) (wq wk wv : (⟨2, ![512, 256]⟩ : Shape).Idx → EReal) (wo : (⟨2, ![256, 512]⟩ : Shape).Idx → EReal) :
    Arrays where
  x b i k := EReal.toReal (x (ix3 b i k))
  wq k c := EReal.toReal (wq (ix2 k c))
  wk k c := EReal.toReal (wk (ix2 k c))
  wv k c := wv (ix2 k c)
  wo c n := wo (ix2 c n)

/-- The kernel on the blocks and the reference on the whole arrays give blocks of one array. -/
theorem value [hP : Cert.Pre_finite_scores_KernelIdeal.Facts] (I : Core.Ins Ideal) (x : Cert.ReferenceIdeal.S2x2048x512.Idx → Ideal .bf16)
    (wq wk wv : Cert.ReferenceIdeal.S512x256.Idx → Ideal .bf16) (wo : Cert.ReferenceIdeal.S256x512.Idx → Ideal .bf16)
    (hx : ∀ c, I.x c = Layout.block ⟨3, ![2, 128, 512]⟩ ⟨3, ![2, 2048, 512]⟩ 1 16 c x) (hq : ∀ c, I.wq c = wq) (hk : ∀ c, I.wk c = wk)
    (hv : ∀ c, I.wv c = wv) (ho : ∀ c, I.wo c = wo)
    (hpre : ∀ c, Pre_finite_scores_KernelIdeal.fn (F := Ideal) (I.x c) (I.wq c) (I.wk c) (I.wv c) (I.wo c) = fun _ => 1#1) (c : Dev Cert.KernelIdeal.nD) :
    Core.result I c = Layout.block ⟨3, ![2, 128, 512]⟩ ⟨3, ![2, 2048, 512]⟩ 1 16 c (Ref.all x wq wk wv wo) := by
  have fx : ∀ b i k, x (ix3 b i k) = (((arrays x wq wk wv wo).x b i k : ℝ) : EReal) := fun b i k => by
    obtain ⟨d, r, rfl⟩ := row_split i
    have e := (pre_real _ _ _ _ _ (hpre d)).1 (ix3 b r k)
    rw [hx, block_at] at e
    exact e.symm
  have fq : ∀ k n, wq (ix2 k n) = (((arrays x wq wk wv wo).wq k n : ℝ) : EReal) := fun k n => by
    have e := (pre_real _ _ _ _ _ (hpre c)).2.1 (ix2 k n)
    rw [hq] at e
    exact e.symm
  have fk : ∀ k n, wk (ix2 k n) = (((arrays x wq wk wv wo).wk k n : ℝ) : EReal) := fun k n => by
    have e := (pre_real _ _ _ _ _ (hpre c)).2.2 (ix2 k n)
    rw [hk] at e
    exact e.symm
  have H : Holds I (arrays x wq wk wv wo) :=
    { x := fun d b r k => by rw [hx, block_at]; exact fx b (rowOf d r) k
      wq := fun d k n => by rw [hq]; exact fq k n
      wk := fun d k n => by rw [hk]; exact fk k n
      wv := fun d k n => by rw [hv]; rfl
      wo := fun d k n => by rw [ho]; rfl }
  funext i
  obtain ⟨b, r, n, rfl⟩ : ∃ (b : Fin 2) (r : Fin 128) (n : Fin 512), i = ix3 b r n := ⟨i 0, i 1, i 2, eta3 i⟩
  exact (result_at H c b r n).trans ((block_at _ c b r n).trans (Ref.all_at _ x wq wk wv wo fx fq fk (fun _ _ => rfl) (fun _ _ => rfl) b (rowOf c r) n)).symm

/-- Both programs run, and the kernel's results are the blocks of the reference's. -/
theorem algebraic [hP : Cert.Pre_finite_scores_KernelIdeal.Facts] :
    Cert.algebraic_KernelIdeal_ReferenceIdeal_pre_finite_scores_KernelIdeal := by
  intro m ρ m' ρ' hpre hin
  refine ⟨Cert.ReferenceIdeal.Value.res_main_v87 m' 0, ?_, (θ_run _ _ _).mono (fun r h => h 0) (Cert.ReferenceIdeal.Value.run m' ρ')⟩
  refine (θ_run _ _ _).mono (fun r h c => ⟨?_, Core.args_kept m ρ h.1 c⟩) (Core.run_main m ρ)
  refine ((h.1 c (5 : Fin 6)).trans (Core.finalA_out m ρ c)).trans ?_
  rw [Ref.out_eq]
  exact value (Core.ins m) _ _ _ _ _ (fun c => (hin c).1) (fun c => (hin c).2.1) (fun c => (hin c).2.2.1) (fun c => (hin c).2.2.2.1)
    (fun c => (hin c).2.2.2.2) hpre c

end Cert.Attn
end
-- ==== Proof.lean ====
/- The certificate: each claim by its theorem under Proof/Core and Proof/Value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Core.Frames
public import proofs.«01_k».proof.Proof.Core.Pre
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

theorem claim : Cert.Claim :=
  have hP := Cert.KernelIdeal.Core.preFacts
  have hR := Cert.KernelIdeal.Core.preFactsR
  ⟨Cert.Kernel.Gen.facts, Cert.KernelIdeal.Gen.facts, Cert.ReferenceIdeal.Gen.facts, hP, hR,
    Cert.KernelIdeal.Core.frame_pk, Cert.KernelIdeal.Core.frame_pki, Cert.KernelIdeal.Core.frame_pki_pre, Cert.KernelIdeal.Core.frame_ri,
    Cert.KernelIdeal.Core.frame_ri_pre, Cert.KernelIdeal.Core.preserves, Cert.Attn.algebraic⟩

end Cert.Proof

end
